-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x8192x1 : Shape := ⟨4, ![2, 256, 8192, 1]⟩
abbrev S2x256x8192 : Shape := ⟨3, ![2, 256, 8192]⟩
abbrev S2x1x8192 : Shape := ⟨3, ![2, 1, 8192]⟩
abbrev S2x8192x256 : Shape := ⟨3, ![2, 8192, 256]⟩
abbrev S2x8192x1 : Shape := ⟨3, ![2, 8192, 1]⟩
abbrev S2x8192x9 : Shape := ⟨3, ![2, 8192, 9]⟩
abbrev S8192 : Shape := ⟨1, ![8192]⟩
abbrev S1x8192x1 : Shape := ⟨3, ![1, 8192, 1]⟩
abbrev S1x2x8192x9 : Shape := ⟨4, ![1, 2, 8192, 9]⟩
abbrev S2x2x8192x9 : Shape := ⟨4, ![2, 2, 8192, 9]⟩
abbrev S1x256x8192 : Shape := ⟨3, ![1, 256, 8192]⟩
abbrev S1x1x8192 : Shape := ⟨3, ![1, 1, 8192]⟩
abbrev S256x8192 : Shape := ⟨2, ![256, 8192]⟩
abbrev S1x8192 : Shape := ⟨2, ![1, 8192]⟩
abbrev S1x128x256 : Shape := ⟨3, ![1, 128, 256]⟩
abbrev S1x128x1 : Shape := ⟨3, ![1, 128, 1]⟩
abbrev S1x128x9 : Shape := ⟨3, ![1, 128, 9]⟩
abbrev S128x256 : Shape := ⟨2, ![128, 256]⟩
abbrev S128x8192 : Shape := ⟨2, ![128, 8192]⟩
abbrev S128x1 : Shape := ⟨2, ![128, 1]⟩
abbrev S128x128 : Shape := ⟨2, ![128, 128]⟩
abbrev S128 : Shape := ⟨1, ![128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 15
  | .vmem => 16
  | .smem => 0
  | _ => 0

abbrev bufTy : (tb : Table) → Fin (tcTables nBuf tb) → BufTy
  | .hbm, ⟨0, _⟩ => ⟨S2x256x8192x1, .f32⟩
  | .hbm, ⟨1, _⟩ => ⟨S2x256x8192, .f32⟩
  | .hbm, ⟨2, _⟩ => ⟨S2x256x8192, .f32⟩
  | .hbm, ⟨3, _⟩ => ⟨S2x1x8192, .f32⟩
  | .hbm, ⟨4, _⟩ => ⟨S2x256x8192, .bf16⟩
  | .hbm, ⟨5, _⟩ => ⟨S2x8192x256, .f32⟩
  | .hbm, ⟨6, _⟩ => ⟨S2x8192x256, .bf16⟩
  | .hbm, ⟨7, _⟩ => ⟨S2x8192x1, .f32⟩
  | .hbm, ⟨8, _⟩ => ⟨S2x8192x9, .i32⟩
  | .hbm, ⟨9, _⟩ => ⟨S8192, .i32⟩
  | .hbm, ⟨10, _⟩ => ⟨S1x8192x1, .i32⟩
  | .hbm, ⟨11, _⟩ => ⟨S2x8192x9, .i32⟩
  | .hbm, ⟨12, _⟩ => ⟨S1x2x8192x9, .i32⟩
  | .hbm, ⟨13, _⟩ => ⟨S1x2x8192x9, .i32⟩
  | .hbm, ⟨14, _⟩ => ⟨S2x2x8192x9, .i32⟩
  | .local _ .vmem, ⟨0, _⟩ => ⟨S1x256x8192, .f32⟩
  | .local _ .vmem, ⟨1, _⟩ => ⟨S1x256x8192, .f32⟩
  | .local _ .vmem, ⟨2, _⟩ => ⟨S1x256x8192, .f32⟩
  | .local _ .vmem, ⟨3, _⟩ => ⟨S1x256x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x128x256, .bf16⟩
  | .local _ .vmem, ⟨7, _⟩ => ⟨S1x128x256, .bf16⟩
  | .local _ .vmem, ⟨8, _⟩ => ⟨S1x256x8192, .bf16⟩
  | .local _ .vmem, ⟨9, _⟩ => ⟨S1x256x8192, .bf16⟩
  | .local _ .vmem, ⟨10, _⟩ => ⟨S1x128x1, .f32⟩
  | .local _ .vmem, ⟨11, _⟩ => ⟨S1x128x1, .f32⟩
  | .local _ .vmem, ⟨12, _⟩ => ⟨S1x1x8192, .f32⟩
  | .local _ .vmem, ⟨13, _⟩ => ⟨S1x1x8192, .f32⟩
  | .local _ .vmem, ⟨14, _⟩ => ⟨S1x128x9, .i32⟩
  | .local _ .vmem, ⟨15, _⟩ => ⟨S1x128x9, .i32⟩
  | _, _ => ⟨S2x256x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_call0_v1_1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x9 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x256x8192x1 : Shape := ⟨4, ![2, 256, 8192, 1]⟩
abbrev S_ : Shape := ⟨0, ![]⟩
abbrev S2x8192x1 : Shape := ⟨3, ![2, 8192, 1]⟩
abbrev S2x1x8192x1 : Shape := ⟨4, ![2, 1, 8192, 1]⟩
abbrev S2x8192x256x1 : Shape := ⟨4, ![2, 8192, 256, 1]⟩
abbrev S2x8192x256 : Shape := ⟨3, ![2, 8192, 256]⟩
abbrev S2x256x8192 : Shape := ⟨3, ![2, 256, 8192]⟩
abbrev S2x8192x8192 : Shape := ⟨3, ![2, 8192, 8192]⟩
abbrev S2x8192 : Shape := ⟨2, ![2, 8192]⟩
abbrev S2x1x8192 : Shape := ⟨3, ![2, 1, 8192]⟩
abbrev S2x8192x18 : Shape := ⟨3, ![2, 8192, 18]⟩
abbrev S8192 : Shape := ⟨1, ![8192]⟩
abbrev S1x8192x1 : Shape := ⟨3, ![1, 8192, 1]⟩
abbrev S1x2x8192x18 : Shape := ⟨4, ![1, 2, 8192, 18]⟩
abbrev S2x2x8192x18 : Shape := ⟨4, ![2, 2, 8192, 18]⟩
abbrev S2x2x8192x9 : Shape := ⟨4, ![2, 2, 8192, 9]⟩

abbrev nBuf : Space → Nat
  | .hbm => 37
  | .vmem => 0
  | .smem => 0
  | _ => 0

abbrev bufTy : (tb : Table) → Fin (tcTables nBuf tb) → BufTy
  | .hbm, ⟨0, _⟩ => ⟨S2x256x8192x1, .f32⟩
  | .hbm, ⟨1, _⟩ => ⟨S2x256x8192x1, .f32⟩
  | .hbm, ⟨2, _⟩ => ⟨S_, .f32⟩
  | .hbm, ⟨3, _⟩ => ⟨S2x8192x1, .f32⟩
  | .hbm, ⟨4, _⟩ => ⟨S2x1x8192x1, .f32⟩
  | .hbm, ⟨5, _⟩ => ⟨S2x1x8192x1, .f32⟩
  | .hbm, ⟨6, _⟩ => ⟨S_, .f32⟩
  | .hbm, ⟨7, _⟩ => ⟨S2x1x8192x1, .f32⟩
  | .hbm, ⟨8, _⟩ => ⟨S2x1x8192x1, .f32⟩
  | .hbm, ⟨9, _⟩ => ⟨S2x256x8192x1, .f32⟩
  | .hbm, ⟨10, _⟩ => ⟨S2x256x8192x1, .f32⟩
  | .hbm, ⟨11, _⟩ => ⟨S2x8192x256x1, .f32⟩
  | .hbm, ⟨12, _⟩ => ⟨S2x8192x256, .f32⟩
  | .hbm, ⟨13, _⟩ => ⟨S2x256x8192, .f32⟩
  | .hbm, ⟨14, _⟩ => ⟨S2x8192x8192, .f32⟩
  | .hbm, ⟨15, _⟩ => ⟨S_, .f32⟩
  | .hbm, ⟨16, _⟩ => ⟨S2x8192x8192, .f32⟩
  | .hbm, ⟨17, _⟩ => ⟨S2x8192x8192, .f32⟩
  | .hbm, ⟨18, _⟩ => ⟨S2x8192x256, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S2x8192x8192, .f32⟩
  | .hbm, ⟨23, _⟩ => ⟨S2x8192x8192, .f32⟩
  | .hbm, ⟨24, _⟩ => ⟨S2x1x8192, .f32⟩
  | .hbm, ⟨25, _⟩ => ⟨S2x8192x8192, .f32⟩
  | .hbm, ⟨26, _⟩ => ⟨S2x8192x8192, .f32⟩
  | .hbm, ⟨27, _⟩ => ⟨S2x8192x8192, .f32⟩
  | .hbm, ⟨28, _⟩ => ⟨S2x8192x18, .f32⟩
  | .hbm, ⟨29, _⟩ => ⟨S2x8192x18, .i32⟩
  | .hbm, ⟨30, _⟩ => ⟨S8192, .i32⟩
  | .hbm, ⟨31, _⟩ => ⟨S1x8192x1, .i32⟩
  | .hbm, ⟨32, _⟩ => ⟨S2x8192x18, .i32⟩
  | .hbm, ⟨33, _⟩ => ⟨S1x2x8192x18, .i32⟩
  | .hbm, ⟨34, _⟩ => ⟨S1x2x8192x18, .i32⟩
  | .hbm, ⟨35, _⟩ => ⟨S2x2x8192x18, .i32⟩
  | .hbm, ⟨36, _⟩ => ⟨S2x2x8192x9, .i32⟩
  | _, _ => ⟨S2x256x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_values : Ref sig .tc := ⟨.hbm, 28, rfl⟩
abbrev main_indices : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.BodyI.lean ====
/-
  The selection kernel's body, read as a compact program.

  The printed body is one straight line of some 3600 statements, cut into parts. Here its values get names: slab `a` of
  the distances (`slab`), the running minimum and the running slab number of one pass over the 64 slabs (`M`, `A`), the
  state of the eighteen merge rounds (`HS`), and the rows of the eighteen exact rounds (`fb`). Each part is shown to be
  the few memory operations it has over those names.
-/
module

public import proofs.«01_k».proof.Proof.Gen.KernelIdeal

@[expose] public section

set_option Elab.async false

noncomputable section

namespace Cert.Proof.KernelIdeal

open Cert.KernelIdeal Cert.KernelIdeal.Gen
open Idealize.ShloMosaic Idealize.SL.Sem

variable {F : FTy → Type} [FloatOps F]

/-! ## The names -/

/-- The squared distances of one block of rows to every point. -/
def dist (v0 : Vec F S1x128x256 .bf16) (v2 : Vec F S1x256x8192 .bf16) (v8 : Vec F S1x128x1 .f32) (v12 : Vec F S1x1x8192 .f32) :
    FVec F S128x8192 .f32 :=
  addf (addf (broadcastTo S128x8192 (shapeCast S128x1 v8 shapeCasts_S1x128x1_S128x1) broadcasts_S128x1_S128x8192)
      (mulf (broadcast S128x8192 (Scalar.ofBits .f32 0xC0000000#32))
        (matmul dot_S128x256_S256x8192_S128x8192_1_0_0_1_n_n none (shapeCast S128x256 v0 shapeCasts_S1x128x256_S128x256 : FVec F S128x256 .bf16)
          (shapeCast S256x8192 v2 shapeCasts_S1x256x8192_S256x8192 : FVec F S256x8192 .bf16) (constant S128x8192 .f32 0x00000000#32))))
    (broadcastTo S128x8192 (shapeCast S1x8192 v12 shapeCasts_S1x1x8192_S1x8192) broadcasts_S1x8192_S128x8192)

/-- The word of a slab's number as a float. -/
def cw (a : ℕ) : BitVec 32 := ([0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32, 0x41F00000#32, 0x41F80000#32, 0x42000000#32, 0x42040000#32, 0x42080000#32, 0x420C0000#32, 0x42100000#32, 0x42140000#32, 0x42180000#32, 0x421C0000#32, 0x42200000#32, 0x42240000#32, 0x42280000#32, 0x422C0000#32, 0x42300000#32, 0x42340000#32, 0x42380000#32, 0x423C0000#32, 0x42400000#32, 0x42440000#32, 0x42480000#32, 0x424C0000#32, 0x42500000#32, 0x42540000#32, 0x42580000#32, 0x425C0000#32, 0x42600000#32, 0x42640000#32, 0x42680000#32, 0x426C0000#32, 0x42700000#32, 0x42740000#32, 0x42780000#32, 0x427C0000#32] : List (BitVec 32)).getD a 0#32

/-- A float constant in every lane. -/
abbrev bc (w : BitVec 32) : FVec F S128x128 .f32 := broadcast S128x128 (Scalar.ofBits .f32 w)

theorem slab_ok (a : ℕ) : S128x8192.Slices ![0, 128 * (a % 64)] S128x128 := by
  refine ⟨rfl, fun x => ?_⟩
  have h := Nat.mod_lt a (show 0 < 64 by decide)
  match x with
  | 0 => show 0 + 128 ≤ 128; omega
  | 1 => show 128 * (a % 64) + 128 ≤ 8192; omega

/-- Slab `a` of the distances: 128 columns from column `128 a` on. -/
def slab (D : FVec F S128x8192 .f32) (a : ℕ) : FVec F S128x128 .f32 := extractStridedSlice S128x128 ![0, 128 * (a % 64)] D (slab_ok a)

/-- A lane takes slab `a`'s value: below the running minimum, and slab `a` not taken by an earlier pass (`ps`). -/
def takes (ps : List (FVec F S128x128 .f32)) (w : BitVec 32) (s m : FVec F S128x128 .f32) : IVec S128x128 1 :=
  ps.foldl (fun k p => andi k (cmpf .one p (bc w))) (cmpf .olt s m)

/-- Slab 0's value, or the sentinel in a lane an earlier pass took it in. -/
def first (s : FVec F S128x128 .f32) : List (FVec F S128x128 .f32) → FVec F S128x128 .f32
  | [] => s
  | p :: ps => select (ps.foldl (fun k q => ori k (cmpf .oeq q (bc 0x00000000#32))) (cmpf .oeq p (bc 0x00000000#32))) (bc 0x7149F2CA#32) s

/-- The running minimum of a pass after slab `a`; -/
def M (D : FVec F S128x8192 .f32) (ps : List (FVec F S128x128 .f32)) : ℕ → FVec F S128x128 .f32
  | 0 => first (slab D 0) ps
  | a + 1 => select (takes ps (cw (a + 1)) (slab D (a + 1)) (M D ps a)) (slab D (a + 1)) (M D ps a)
/-- and the number of the slab it was taken from. -/
def A (D : FVec F S128x8192 .f32) (ps : List (FVec F S128x128 .f32)) : ℕ → FVec F S128x128 .f32
  | 0 => bc 0x00000000#32
  | a + 1 => select (takes ps (cw (a + 1)) (slab D (a + 1)) (M D ps a)) (bc (cw (a + 1))) (A D ps a)

/-- A slab number and the lane make a column. -/
def gg (x : FVec F S128x128 .f32) : FVec F S128x128 .f32 :=
  addf (mulf x (bc 0x43000000#32)) (sitofp .f32 (iota .tc S128x128 32 [1] iota_S128x128_d1_w32))

/-- The merge's state: each lane's four smallest values still there, and their columns. -/
@[ext] structure HS (F : FTy → Type) where
  m1 : FVec F S128x128 .f32
  m2 : FVec F S128x128 .f32
  m3 : FVec F S128x128 .f32
  m4 : FVec F S128x128 .f32
  g1 : FVec F S128x128 .f32
  g2 : FVec F S128x128 .f32
  g3 : FVec F S128x128 .f32
  g4 : FVec F S128x128 .f32

namespace HS
variable (s : HS F)
/-- A round's least value in each row, -/
def w : FVec F S128x1 .f32 := shapeCast S128x1 (multiReduction .minimumf [1] S128 s.m1 0x7F800000#32 reduces_S128x128_S128 (.inl rfl) rfl : FVec F S128 .f32) shapeCasts_S128_S128x1
/-- the columns it stands at, -/
def cand : FVec F S128x128 .f32 := select (cmpf .oeq s.m1 (broadcastTo S128x128 s.w broadcasts_S128x1_S128x128)) s.g1 (bc 0x4BE4E1C0#32)
/-- the least of them, -/
def wg : FVec F S128x1 .f32 := shapeCast S128x1 (multiReduction .minimumf [1] S128 s.cand 0x7F800000#32 reduces_S128x128_S128 (.inl rfl) rfl : FVec F S128 .f32) shapeCasts_S128_S128x1
/-- as an integer, -/
def wi : IVec S128x1 32 := fptosi 32 s.wg
/-- and its lane. -/
def hit : IVec S128x128 1 := cmpf .oeq s.g1 (broadcastTo S128x128 s.wg broadcasts_S128x1_S128x128)
/-- After the round: the lane's values move up by one. -/
def step : HS F where
  m1 := select s.hit s.m2 s.m1
  m2 := select s.hit s.m3 s.m2
  m3 := select s.hit s.m4 s.m3
  m4 := select s.hit (bc 0x7149F2CA#32) s.m4
  g1 := select s.hit s.g2 s.g1
  g2 := select s.hit s.g3 s.g2
  g3 := select s.hit s.g4 s.g3
  g4 := s.g4
end HS

/-- The columns as floats. -/
def lanes2 : FVec F S128x8192 .f32 := sitofp .f32 (iota .tc S128x8192 32 [1] iota_S128x8192_d1_w32)
/-- In an exact round, the columns of a row's least value, -/
def fbc (x : FVec F S128x8192 .f32) : FVec F S128x8192 .f32 :=
  select (cmpf .oeq x (broadcastTo S128x8192 (shapeCast S128x1 (multiReduction .minimumf [1] S128 x 0x7F800000#32 reduces_S128x8192_S128 (.inl rfl) rfl : FVec F S128 .f32) shapeCasts_S128_S128x1 : FVec F S128x1 .f32) broadcasts_S128x1_S128x8192))
    lanes2 (broadcast S128x8192 (Scalar.ofBits .f32 0x4BE4E1C0#32))
/-- and the least of them. -/
def fbw (x : FVec F S128x8192 .f32) : FVec F S128x1 .f32 := shapeCast S128x1 (multiReduction .minimumf [1] S128 (fbc x) 0x7F800000#32 reduces_S128x8192_S128 (.inl rfl) rfl : FVec F S128 .f32) shapeCasts_S128_S128x1
/-- The rows after `j` exact rounds. -/
def fb (D : FVec F S128x8192 .f32) : ℕ → FVec F S128x8192 .f32
  | 0 => D
  | j + 1 => select (cmpf .oeq lanes2 (broadcastTo S128x8192 (fbw (fb D j)) broadcasts_S128x1_S128x8192)) (broadcast S128x8192 (Scalar.ofBits .f32 0x7149F2CA#32)) (fb D j)

/-! ## The parts -/

variable (i : grid1.Coords) (arg2 : Memref sig .tc .vmem S1x128x256 .bf16) (harg2 : arg2.IsWhole)
  (arg3 : Memref sig .tc .vmem S1x256x8192 .bf16) (harg3 : arg3.IsWhole) (arg4 : Memref sig .tc .vmem S1x128x1 .f32) (harg4 : arg4.IsWhole)
  (arg5 : Memref sig .tc .vmem S1x1x8192 .f32) (harg5 : arg5.IsWhole) (arg6 : Memref sig .tc .vmem S1x128x9 .i32) (harg6 : arg6.IsWhole)

theorem part6_eq :
    k1_part6 i arg2 harg2 arg3 harg3 arg4 harg4 arg5 harg5 arg6 harg6  = (do
      let v0 : Vec F S1x128x256 .bf16 ← Prog.lift (.load arg2 (Rect.unit (s := S1x128x256) ![0, 0, 0] S1x128x256.size inb_S1x128x256_S1x128x256_0_0_0).toLoadRect (View.loadsAt_vmem h_S1x128x256))
      let v2 : Vec F S1x256x8192 .bf16 ← Prog.lift (.load arg3 (Rect.unit (s := S1x256x8192) ![0, 0, 0] S1x256x8192.size inb_S1x256x8192_S1x256x8192_0_0_0).toLoadRect (View.loadsAt_vmem h_S1x256x8192))
      let v8 : Vec F S1x128x1 .f32 ← Prog.lift (.load (arg4.slice (Rect.unit (s := S1x128x1) ![0, 0, 0] S1x128x1.size inb_S1x128x1_S1x128x1_0_0_0) (fun _ => rfl)) (Rect.unit (s := S1x128x1) ![0, 0, 0] S1x128x1.size inb_S1x128x1_S1x128x1_0_0_0).toLoadRect (View.loadsAt_vmem h_S1x128x1))
      let v12 : Vec F S1x1x8192 .f32 ← Prog.lift (.load arg5 (Rect.unit (s := S1x1x8192) ![0, 0, 0] S1x1x8192.size inb_S1x1x8192_S1x1x8192_0_0_0).toLoadRect (View.loadsAt_vmem h_S1x1x8192))
      pure ⟨(dist v0 v2 v8 v12), (A (dist v0 v2 v8 v12) [] 3), (cmpf .olt (slab (dist v0 v2 v8 v12) 4) (M (dist v0 v2 v8 v12) [] 3)), (M (dist v0 v2 v8 v12) [] 4), (Scalar.ofBits .f32 0x40800000#32)⟩) := rfl

theorem part7_eq (D : FVec F S128x8192 .f32) :
    k1_part7 i arg2 harg2 arg3 harg3 arg4 harg4 arg5 harg5 arg6 harg6 D (A D [] 3) (cmpf .olt (slab D 4) (M D [] 3)) (M D [] 4) (Scalar.ofBits .f32 0x40800000#32) = (do
      pure ⟨(A D [] 13), (cmpf .olt (slab D 14) (M D [] 13)), (M D [] 14), (Scalar.ofBits .f32 0x41600000#32)⟩) := rfl

theorem part8_eq (D : FVec F S128x8192 .f32) :
    k1_part8 i arg2 harg2 arg3 harg3 arg4 harg4 arg5 harg5 arg6 harg6 D (A D [] 13) (cmpf .olt (slab D 14) (M D [] 13)) (M D [] 14) (Scalar.ofBits .f32 0x41600000#32) = (do
      pure ⟨(A D [] 23), (cmpf .olt (slab D 24) (M D [] 23)), (M D [] 24), (Scalar.ofBits .f32 0x41C00000#32)⟩) := rfl

theorem part9_eq (D : FVec F S128x8192 .f32) :
    k1_part9 i arg2 harg2 arg3 harg3 arg4 harg4 arg5 harg5 arg6 harg6 D (A D [] 23) (cmpf .olt (slab D 24) (M D [] 23)) (M D [] 24) (Scalar.ofBits .f32 0x41C00000#32) = (do
      pure ⟨(A D [] 33), (cmpf .olt (slab D 34) (M D [] 33)), (M D [] 34), (Scalar.ofBits .f32 0x42080000#32)⟩) := rfl

theorem part10_eq (D : FVec F S128x8192 .f32) :
    k1_part10 i arg2 harg2 arg3 harg3 arg4 harg4 arg5 harg5 arg6 harg6 D (A D [] 33) (cmpf .olt (slab D 34) (M D [] 33)) (M D [] 34) (Scalar.ofBits .f32 0x42080000#32) = (do
      pure ⟨(A D [] 43), (cmpf .olt (slab D 44) (M D [] 43)), (M D [] 44), (Scalar.ofBits .f32 0x42300000#32)⟩) := rfl

theorem part11_eq (D : FVec F S128x8192 .f32) :
    k1_part11 i arg2 harg2 arg3 harg3 arg4 harg4 arg5 harg5 arg6 harg6 D (A D [] 43) (cmpf .olt (slab D 44) (M D [] 43)) (M D [] 44) (Scalar.ofBits .f32 0x42300000#32) = (do
      pure ⟨(A D [] 53), (cmpf .olt (slab D 54) (M D [] 53)), (M D [] 54), (Scalar.ofBits .f32 0x42580000#32)⟩) := rfl

theorem part12_eq (D : FVec F S128x8192 .f32) :
    k1_part12 i arg2 harg2 arg3 harg3 arg4 harg4 arg5 harg5 arg6 harg6 D (A D [] 53) (cmpf .olt (slab D 54) (M D [] 53)) (M D [] 54) (Scalar.ofBits .f32 0x42580000#32) = (do
      pure ⟨(M D [] 63), (A D [] 63), (cmpf .oeq (A D [] 63) (broadcast S128x128 (Scalar.ofBits .f32 0x00000000#32))), (slab D 0)⟩) := rfl

theorem part13_eq (D : FVec F S128x8192 .f32) (A1 : FVec F S128x128 .f32) :
    k1_part13 i arg2 harg2 arg3 harg3 arg4 harg4 arg5 harg5 arg6 harg6 D A1 (cmpf .oeq A1 (broadcast S128x128 (Scalar.ofBits .f32 0x00000000#32))) (slab D 0) = (do
      pure ⟨(M D [A1] 5), (A D [A1] 5), (slab D 6), (cmpf .olt (slab D 6) (M D [A1] 5)), (cmpf .one A1 (broadcast S128x128 (Scalar.ofBits .f32 0x40C00000#32)))⟩) := rfl

theorem part14_eq (D : FVec F S128x8192 .f32) (A1 : FVec F S128x128 .f32) :
    k1_part14 i arg2 harg2 arg3 harg3 arg4 harg4 arg5 harg5 arg6 harg6 D A1 (M D [A1] 5) (A D [A1] 5) (slab D 6) (cmpf .olt (slab D 6) (M D [A1] 5)) (cmpf .one A1 (broadcast S128x128 (Scalar.ofBits .f32 0x40C00000#32))) = (do
      pure ⟨(M D [A1] 11), (A D [A1] 11), (slab D 12), (cmpf .olt (slab D 12) (M D [A1] 11)), (cmpf .one A1 (broadcast S128x128 (Scalar.ofBits .f32 0x41400000#32)))⟩) := rfl

theorem part15_eq (D : FVec F S128x8192 .f32) (A1 : FVec F S128x128 .f32) :
    k1_part15 i arg2 harg2 arg3 harg3 arg4 harg4 arg5 harg5 arg6 harg6 D A1 (M D [A1] 11) (A D [A1] 11) (slab D 12) (cmpf .olt (slab D 12) (M D [A1] 11)) (cmpf .one A1 (broadcast S128x128 (Scalar.ofBits .f32 0x41400000#32))) = (do
      pure ⟨(M D [A1] 17), (A D [A1] 17), (slab D 18), (cmpf .olt (slab D 18) (M D [A1] 17)), (cmpf .one A1 (broadcast S128x128 (Scalar.ofBits .f32 0x41900000#32)))⟩) := rfl

theorem part16_eq (D : FVec F S128x8192 .f32) (A1 : FVec F S128x128 .f32) :
    k1_part16 i arg2 harg2 arg3 harg3 arg4 harg4 arg5 harg5 arg6 harg6 D A1 (M D [A1] 17) (A D [A1] 17) (slab D 18) (cmpf .olt (slab D 18) (M D [A1] 17)) (cmpf .one A1 (broadcast S128x128 (Scalar.ofBits .f32 0x41900000#32))) = (do
      pure ⟨(M D [A1] 23), (A D [A1] 23), (slab D 24), (cmpf .olt (slab D 24) (M D [A1] 23)), (cmpf .one A1 (broadcast S128x128 (Scalar.ofBits .f32 0x41C00000#32)))⟩) := rfl

theorem part17_eq (D : FVec F S128x8192 .f32) (A1 : FVec F S128x128 .f32) :
    k1_part17 i arg2 harg2 arg3 harg3 arg4 harg4 arg5 harg5 arg6 harg6 D A1 (M D [A1] 23) (A D [A1] 23) (slab D 24) (cmpf .olt (slab D 24) (M D [A1] 23)) (cmpf .one A1 (broadcast S128x128 (Scalar.ofBits .f32 0x41C00000#32))) = (do
      pure ⟨(M D [A1] 29), (A D [A1] 29), (slab D 30), (cmpf .olt (slab D 30) (M D [A1] 29)), (cmpf .one A1 (broadcast S128x128 (Scalar.ofBits .f32 0x41F00000#32)))⟩) := rfl

theorem part18_eq (D : FVec F S128x8192 .f32) (A1 : FVec F S128x128 .f32) :
    k1_part18 i arg2 harg2 arg3 harg3 arg4 harg4 arg5 harg5 arg6 harg6 D A1 (M D [A1] 29) (A D [A1] 29) (slab D 30) (cmpf .olt (slab D 30) (M D [A1] 29)) (cmpf .one A1 (broadcast S128x128 (Scalar.ofBits .f32 0x41F00000#32))) = (do
      pure ⟨(M D [A1] 35), (A D [A1] 35), (slab D 36), (cmpf .olt (slab D 36) (M D [A1] 35)), (cmpf .one A1 (broadcast S128x128 (Scalar.ofBits .f32 0x42100000#32)))⟩) := rfl

theorem part19_eq (D : FVec F S128x8192 .f32) (A1 : FVec F S128x128 .f32) :
    k1_part19 i arg2 harg2 arg3 harg3 arg4 harg4 arg5 harg5 arg6 harg6 D A1 (M D [A1] 35) (A D [A1] 35) (slab D 36) (cmpf .olt (slab D 36) (M D [A1] 35)) (cmpf .one A1 (broadcast S128x128 (Scalar.ofBits .f32 0x42100000#32))) = (do
      pure ⟨(M D [A1] 41), (A D [A1] 41), (slab D 42), (cmpf .olt (slab D 42) (M D [A1] 41)), (cmpf .one A1 (broadcast S128x128 (Scalar.ofBits .f32 0x42280000#32)))⟩) := rfl

theorem part20_eq (D : FVec F S128x8192 .f32) (A1 : FVec F S128x128 .f32) :
    k1_part20 i arg2 harg2 arg3 harg3 arg4 harg4 arg5 harg5 arg6 harg6 D A1 (M D [A1] 41) (A D [A1] 41) (slab D 42) (cmpf .olt (slab D 42) (M D [A1] 41)) (cmpf .one A1 (broadcast S128x128 (Scalar.ofBits .f32 0x42280000#32))) = (do
      pure ⟨(M D [A1] 47), (A D [A1] 47), (slab D 48), (cmpf .olt (slab D 48) (M D [A1] 47)), (cmpf .one A1 (broadcast S128x128 (Scalar.ofBits .f32 0x42400000#32)))⟩) := rfl

theorem part21_eq (D : FVec F S128x8192 .f32) (A1 : FVec F S128x128 .f32) :
    k1_part21 i arg2 harg2 arg3 harg3 arg4 harg4 arg5 harg5 arg6 harg6 D A1 (M D [A1] 47) (A D [A1] 47) (slab D 48) (cmpf .olt (slab D 48) (M D [A1] 47)) (cmpf .one A1 (broadcast S128x128 (Scalar.ofBits .f32 0x42400000#32))) = (do
      pure ⟨(M D [A1] 53), (A D [A1] 53), (slab D 54), (cmpf .olt (slab D 54) (M D [A1] 53)), (cmpf .one A1 (broadcast S128x128 (Scalar.ofBits .f32 0x42580000#32)))⟩) := rfl

theorem part22_eq (D : FVec F S128x8192 .f32) (A1 : FVec F S128x128 .f32) :
    k1_part22 i arg2 harg2 arg3 harg3 arg4 harg4 arg5 harg5 arg6 harg6 D A1 (M D [A1] 53) (A D [A1] 53) (slab D 54) (cmpf .olt (slab D 54) (M D [A1] 53)) (cmpf .one A1 (broadcast S128x128 (Scalar.ofBits .f32 0x42580000#32))) = (do
      pure ⟨(M D [A1] 59), (A D [A1] 59), (slab D 60), (cmpf .olt (slab D 60) (M D [A1] 59)), (cmpf .one A1 (broadcast S128x128 (Scalar.ofBits .f32 0x42700000#32)))⟩) := rfl

theorem part23_eq (D : FVec F S128x8192 .f32) (A1 : FVec F S128x128 .f32) :
    k1_part23 i arg2 harg2 arg3 harg3 arg4 harg4 arg5 harg5 arg6 harg6 D A1 (M D [A1] 59) (A D [A1] 59) (slab D 60) (cmpf .olt (slab D 60) (M D [A1] 59)) (cmpf .one A1 (broadcast S128x128 (Scalar.ofBits .f32 0x42700000#32))) = (do
      pure ⟨(M D [A1] 63), (A D [A1] 63), (broadcast S128x128 (Scalar.ofBits .f32 0x00000000#32)), (andi (andi (cmpf .olt (slab D 1) (M D [A1, (A D [A1] 63)] 0)) (cmpf .one A1 (broadcast S128x128 (Scalar.ofBits .f32 0x3F800000#32)))) (cmpf .one (A D [A1] 63) (broadcast S128x128 (Scalar.ofBits .f32 0x3F800000#32)))), (M D [A1, (A D [A1] 63)] 1), (Scalar.ofBits .f32 0x3F800000#32)⟩) := rfl

theorem part24_eq (D : FVec F S128x8192 .f32) (A1 A2 : FVec F S128x128 .f32) :
    k1_part24 i arg2 harg2 arg3 harg3 arg4 harg4 arg5 harg5 arg6 harg6 D A1 A2 (broadcast S128x128 (Scalar.ofBits .f32 0x00000000#32)) (andi (andi (cmpf .olt (slab D 1) (M D [A1, A2] 0)) (cmpf .one A1 (broadcast S128x128 (Scalar.ofBits .f32 0x3F800000#32)))) (cmpf .one A2 (broadcast S128x128 (Scalar.ofBits .f32 0x3F800000#32)))) (M D [A1, A2] 1) (Scalar.ofBits .f32 0x3F800000#32) = (do
      pure ⟨(M D [A1, A2] 5), (A D [A1, A2] 5), (slab D 6), (cmpf .olt (slab D 6) (M D [A1, A2] 5))⟩) := rfl

theorem part25_eq (D : FVec F S128x8192 .f32) (A1 A2 : FVec F S128x128 .f32) :
    k1_part25 i arg2 harg2 arg3 harg3 arg4 harg4 arg5 harg5 arg6 harg6 D A1 A2 (M D [A1, A2] 5) (A D [A1, A2] 5) (slab D 6) (cmpf .olt (slab D 6) (M D [A1, A2] 5)) = (do
      pure ⟨(M D [A1, A2] 9), (A D [A1, A2] 9), (slab D 10), (andi (cmpf .olt (slab D 10) (M D [A1, A2] 9)) (cmpf .one A1 (broadcast S128x128 (Scalar.ofBits .f32 0x41200000#32))))⟩) := rfl

theorem part26_eq (D : FVec F S128x8192 .f32) (A1 A2 : FVec F S128x128 .f32) :
    k1_part26 i arg2 harg2 arg3 harg3 arg4 harg4 arg5 harg5 arg6 harg6 D A1 A2 (M D [A1, A2] 9) (A D [A1, A2] 9) (slab D 10) (andi (cmpf .olt (slab D 10) (M D [A1, A2] 9)) (cmpf .one A1 (broadcast S128x128 (Scalar.ofBits .f32 0x41200000#32)))) = (do
      pure ⟨(M D [A1, A2] 13), (A D [A1, A2] 13), (slab D 14), (andi (andi (cmpf .olt (slab D 14) (M D [A1, A2] 13)) (cmpf .one A1 (broadcast S128x128 (Scalar.ofBits .f32 0x41600000#32)))) (cmpf .one A2 (broadcast S128x128 (Scalar.ofBits .f32 0x41600000#32))))⟩) := rfl

theorem part27_eq (D : FVec F S128x8192 .f32) (A1 A2 : FVec F S128x128 .f32) :
    k1_part27 i arg2 harg2 arg3 harg3 arg4 harg4 arg5 harg5 arg6 harg6 D A1 A2 (M D [A1, A2] 13) (A D [A1, A2] 13) (slab D 14) (andi (andi (cmpf .olt (slab D 14) (M D [A1, A2] 13)) (cmpf .one A1 (broadcast S128x128 (Scalar.ofBits .f32 0x41600000#32)))) (cmpf .one A2 (broadcast S128x128 (Scalar.ofBits .f32 0x41600000#32)))) = (do
      pure ⟨(M D [A1, A2] 18), (A D [A1, A2] 18)⟩) := rfl

theorem part28_eq (D : FVec F S128x8192 .f32) (A1 A2 : FVec F S128x128 .f32) :
    k1_part28 i arg2 harg2 arg3 harg3 arg4 harg4 arg5 harg5 arg6 harg6 D A1 A2 (M D [A1, A2] 18) (A D [A1, A2] 18) = (do
      pure ⟨(M D [A1, A2] 22), (A D [A1, A2] 22), (slab D 23), (cmpf .olt (slab D 23) (M D [A1, A2] 22)), (broadcast S128x128 (Scalar.ofBits .f32 0x41B80000#32))⟩) := rfl

theorem part29_eq (D : FVec F S128x8192 .f32) (A1 A2 : FVec F S128x128 .f32) :
    k1_part29 i arg2 harg2 arg3 harg3 arg4 harg4 arg5 harg5 arg6 harg6 D A1 A2 (M D [A1, A2] 22) (A D [A1, A2] 22) (slab D 23) (cmpf .olt (slab D 23) (M D [A1, A2] 22)) (broadcast S128x128 (Scalar.ofBits .f32 0x41B80000#32)) = (do
      pure ⟨(M D [A1, A2] 26), (A D [A1, A2] 26), (slab D 27), (andi (cmpf .olt (slab D 27) (M D [A1, A2] 26)) (cmpf .one A1 (broadcast S128x128 (Scalar.ofBits .f32 0x41D80000#32)))), (broadcast S128x128 (Scalar.ofBits .f32 0x41D80000#32))⟩) := rfl

theorem part30_eq (D : FVec F S128x8192 .f32) (A1 A2 : FVec F S128x128 .f32) :
    k1_part30 i arg2 harg2 arg3 harg3 arg4 harg4 arg5 harg5 arg6 harg6 D A1 A2 (M D [A1, A2] 26) (A D [A1, A2] 26) (slab D 27) (andi (cmpf .olt (slab D 27) (M D [A1, A2] 26)) (cmpf .one A1 (broadcast S128x128 (Scalar.ofBits .f32 0x41D80000#32)))) (broadcast S128x128 (Scalar.ofBits .f32 0x41D80000#32)) = (do
      pure ⟨(A D [A1, A2] 30), (andi (andi (cmpf .olt (slab D 31) (M D [A1, A2] 30)) (cmpf .one A1 (broadcast S128x128 (Scalar.ofBits .f32 0x41F80000#32)))) (cmpf .one A2 (broadcast S128x128 (Scalar.ofBits .f32 0x41F80000#32)))), (M D [A1, A2] 31), (Scalar.ofBits .f32 0x41F80000#32)⟩) := rfl

theorem part31_eq (D : FVec F S128x8192 .f32) (A1 A2 : FVec F S128x128 .f32) :
    k1_part31 i arg2 harg2 arg3 harg3 arg4 harg4 arg5 harg5 arg6 harg6 D A1 A2 (A D [A1, A2] 30) (andi (andi (cmpf .olt (slab D 31) (M D [A1, A2] 30)) (cmpf .one A1 (broadcast S128x128 (Scalar.ofBits .f32 0x41F80000#32)))) (cmpf .one A2 (broadcast S128x128 (Scalar.ofBits .f32 0x41F80000#32)))) (M D [A1, A2] 31) (Scalar.ofBits .f32 0x41F80000#32) = (do
      pure ⟨(M D [A1, A2] 35), (A D [A1, A2] 35), (slab D 36), (cmpf .olt (slab D 36) (M D [A1, A2] 35))⟩) := rfl

theorem part32_eq (D : FVec F S128x8192 .f32) (A1 A2 : FVec F S128x128 .f32) :
    k1_part32 i arg2 harg2 arg3 harg3 arg4 harg4 arg5 harg5 arg6 harg6 D A1 A2 (M D [A1, A2] 35) (A D [A1, A2] 35) (slab D 36) (cmpf .olt (slab D 36) (M D [A1, A2] 35)) = (do
      pure ⟨(M D [A1, A2] 39), (A D [A1, A2] 39), (slab D 40), (andi (cmpf .olt (slab D 40) (M D [A1, A2] 39)) (cmpf .one A1 (broadcast S128x128 (Scalar.ofBits .f32 0x42200000#32))))⟩) := rfl

theorem part33_eq (D : FVec F S128x8192 .f32) (A1 A2 : FVec F S128x128 .f32) :
    k1_part33 i arg2 harg2 arg3 harg3 arg4 harg4 arg5 harg5 arg6 harg6 D A1 A2 (M D [A1, A2] 39) (A D [A1, A2] 39) (slab D 40) (andi (cmpf .olt (slab D 40) (M D [A1, A2] 39)) (cmpf .one A1 (broadcast S128x128 (Scalar.ofBits .f32 0x42200000#32)))) = (do
      pure ⟨(M D [A1, A2] 43), (A D [A1, A2] 43), (slab D 44), (andi (andi (cmpf .olt (slab D 44) (M D [A1, A2] 43)) (cmpf .one A1 (broadcast S128x128 (Scalar.ofBits .f32 0x42300000#32)))) (cmpf .one A2 (broadcast S128x128 (Scalar.ofBits .f32 0x42300000#32))))⟩) := rfl

theorem part34_eq (D : FVec F S128x8192 .f32) (A1 A2 : FVec F S128x128 .f32) :
    k1_part34 i arg2 harg2 arg3 harg3 arg4 harg4 arg5 harg5 arg6 harg6 D A1 A2 (M D [A1, A2] 43) (A D [A1, A2] 43) (slab D 44) (andi (andi (cmpf .olt (slab D 44) (M D [A1, A2] 43)) (cmpf .one A1 (broadcast S128x128 (Scalar.ofBits .f32 0x42300000#32)))) (cmpf .one A2 (broadcast S128x128 (Scalar.ofBits .f32 0x42300000#32)))) = (do
      pure ⟨(M D [A1, A2] 48), (A D [A1, A2] 48)⟩) := rfl

theorem part35_eq (D : FVec F S128x8192 .f32) (A1 A2 : FVec F S128x128 .f32) :
    k1_part35 i arg2 harg2 arg3 harg3 arg4 harg4 arg5 harg5 arg6 harg6 D A1 A2 (M D [A1, A2] 48) (A D [A1, A2] 48) = (do
      pure ⟨(M D [A1, A2] 52), (A D [A1, A2] 52), (slab D 53), (cmpf .olt (slab D 53) (M D [A1, A2] 52)), (broadcast S128x128 (Scalar.ofBits .f32 0x42540000#32))⟩) := rfl

theorem part36_eq (D : FVec F S128x8192 .f32) (A1 A2 : FVec F S128x128 .f32) :
    k1_part36 i arg2 harg2 arg3 harg3 arg4 harg4 arg5 harg5 arg6 harg6 D A1 A2 (M D [A1, A2] 52) (A D [A1, A2] 52) (slab D 53) (cmpf .olt (slab D 53) (M D [A1, A2] 52)) (broadcast S128x128 (Scalar.ofBits .f32 0x42540000#32)) = (do
      pure ⟨(M D [A1, A2] 56), (A D [A1, A2] 56), (slab D 57), (andi (cmpf .olt (slab D 57) (M D [A1, A2] 56)) (cmpf .one A1 (broadcast S128x128 (Scalar.ofBits .f32 0x42640000#32)))), (broadcast S128x128 (Scalar.ofBits .f32 0x42640000#32))⟩) := rfl

theorem part37_eq (D : FVec F S128x8192 .f32) (A1 A2 : FVec F S128x128 .f32) :
    k1_part37 i arg2 harg2 arg3 harg3 arg4 harg4 arg5 harg5 arg6 harg6 D A1 A2 (M D [A1, A2] 56) (A D [A1, A2] 56) (slab D 57) (andi (cmpf .olt (slab D 57) (M D [A1, A2] 56)) (cmpf .one A1 (broadcast S128x128 (Scalar.ofBits .f32 0x42640000#32)))) (broadcast S128x128 (Scalar.ofBits .f32 0x42640000#32)) = (do
      pure ⟨(A D [A1, A2] 60), (andi (andi (cmpf .olt (slab D 61) (M D [A1, A2] 60)) (cmpf .one A1 (broadcast S128x128 (Scalar.ofBits .f32 0x42740000#32)))) (cmpf .one A2 (broadcast S128x128 (Scalar.ofBits .f32 0x42740000#32)))), (M D [A1, A2] 61), (Scalar.ofBits .f32 0x42740000#32)⟩) := rfl

theorem part38_eq (D : FVec F S128x8192 .f32) (A1 A2 : FVec F S128x128 .f32) :
    k1_part38 i arg2 harg2 arg3 harg3 arg4 harg4 arg5 harg5 arg6 harg6 D A1 A2 (A D [A1, A2] 60) (andi (andi (cmpf .olt (slab D 61) (M D [A1, A2] 60)) (cmpf .one A1 (broadcast S128x128 (Scalar.ofBits .f32 0x42740000#32)))) (cmpf .one A2 (broadcast S128x128 (Scalar.ofBits .f32 0x42740000#32)))) (M D [A1, A2] 61) (Scalar.ofBits .f32 0x42740000#32) = (do
      pure ⟨(M D [A1, A2] 63), (A D [A1, A2] 63), (M D [A1, A2, (A D [A1, A2] 63)] 0), (broadcast S128x128 (Scalar.ofBits .f32 0x00000000#32)), (slab D 1), (andi (andi (cmpf .olt (slab D 1) (M D [A1, A2, (A D [A1, A2] 63)] 0)) (cmpf .one A1 (broadcast S128x128 (Scalar.ofBits .f32 0x3F800000#32)))) (cmpf .one A2 (broadcast S128x128 (Scalar.ofBits .f32 0x3F800000#32)))), (cmpf .one (A D [A1, A2] 63) (broadcast S128x128 (Scalar.ofBits .f32 0x3F800000#32)))⟩) := rfl

theorem part39_eq (D : FVec F S128x8192 .f32) (A1 A2 A3 : FVec F S128x128 .f32) :
    k1_part39 i arg2 harg2 arg3 harg3 arg4 harg4 arg5 harg5 arg6 harg6 D A1 A2 A3 (M D [A1, A2, A3] 0) (broadcast S128x128 (Scalar.ofBits .f32 0x00000000#32)) (slab D 1) (andi (andi (cmpf .olt (slab D 1) (M D [A1, A2, A3] 0)) (cmpf .one A1 (broadcast S128x128 (Scalar.ofBits .f32 0x3F800000#32)))) (cmpf .one A2 (broadcast S128x128 (Scalar.ofBits .f32 0x3F800000#32)))) (cmpf .one A3 (broadcast S128x128 (Scalar.ofBits .f32 0x3F800000#32))) = (do
      pure ⟨(M D [A1, A2, A3] 4), (A D [A1, A2, A3] 4), (slab D 5)⟩) := rfl

theorem part40_eq (D : FVec F S128x8192 .f32) (A1 A2 A3 : FVec F S128x128 .f32) :
    k1_part40 i arg2 harg2 arg3 harg3 arg4 harg4 arg5 harg5 arg6 harg6 D A1 A2 A3 (M D [A1, A2, A3] 4) (A D [A1, A2, A3] 4) (slab D 5) = (do
      pure ⟨(M D [A1, A2, A3] 7), (A D [A1, A2, A3] 7), (slab D 8), (andi (cmpf .olt (slab D 8) (M D [A1, A2, A3] 7)) (cmpf .one A1 (broadcast S128x128 (Scalar.ofBits .f32 0x41000000#32)))), (Scalar.ofBits .f32 0x41000000#32)⟩) := rfl

theorem part41_eq (D : FVec F S128x8192 .f32) (A1 A2 A3 : FVec F S128x128 .f32) :
    k1_part41 i arg2 harg2 arg3 harg3 arg4 harg4 arg5 harg5 arg6 harg6 D A1 A2 A3 (M D [A1, A2, A3] 7) (A D [A1, A2, A3] 7) (slab D 8) (andi (cmpf .olt (slab D 8) (M D [A1, A2, A3] 7)) (cmpf .one A1 (broadcast S128x128 (Scalar.ofBits .f32 0x41000000#32)))) (Scalar.ofBits .f32 0x41000000#32) = (do
      pure ⟨(M D [A1, A2, A3] 10), (A D [A1, A2, A3] 10), (slab D 11), (andi (andi (cmpf .olt (slab D 11) (M D [A1, A2, A3] 10)) (cmpf .one A1 (broadcast S128x128 (Scalar.ofBits .f32 0x41300000#32)))) (cmpf .one A2 (broadcast S128x128 (Scalar.ofBits .f32 0x41300000#32)))), (cmpf .one A3 (broadcast S128x128 (Scalar.ofBits .f32 0x41300000#32)))⟩) := rfl

theorem part42_eq (D : FVec F S128x8192 .f32) (A1 A2 A3 : FVec F S128x128 .f32) :
    k1_part42 i arg2 harg2 arg3 harg3 arg4 harg4 arg5 harg5 arg6 harg6 D A1 A2 A3 (M D [A1, A2, A3] 10) (A D [A1, A2, A3] 10) (slab D 11) (andi (andi (cmpf .olt (slab D 11) (M D [A1, A2, A3] 10)) (cmpf .one A1 (broadcast S128x128 (Scalar.ofBits .f32 0x41300000#32)))) (cmpf .one A2 (broadcast S128x128 (Scalar.ofBits .f32 0x41300000#32)))) (cmpf .one A3 (broadcast S128x128 (Scalar.ofBits .f32 0x41300000#32))) = (do
      pure ⟨(M D [A1, A2, A3] 14), (A D [A1, A2, A3] 14), (slab D 15)⟩) := rfl

theorem part43_eq (D : FVec F S128x8192 .f32) (A1 A2 A3 : FVec F S128x128 .f32) :
    k1_part43 i arg2 harg2 arg3 harg3 arg4 harg4 arg5 harg5 arg6 harg6 D A1 A2 A3 (M D [A1, A2, A3] 14) (A D [A1, A2, A3] 14) (slab D 15) = (do
      pure ⟨(M D [A1, A2, A3] 17), (A D [A1, A2, A3] 17), (slab D 18), (andi (cmpf .olt (slab D 18) (M D [A1, A2, A3] 17)) (cmpf .one A1 (broadcast S128x128 (Scalar.ofBits .f32 0x41900000#32)))), (Scalar.ofBits .f32 0x41900000#32)⟩) := rfl

theorem part44_eq (D : FVec F S128x8192 .f32) (A1 A2 A3 : FVec F S128x128 .f32) :
    k1_part44 i arg2 harg2 arg3 harg3 arg4 harg4 arg5 harg5 arg6 harg6 D A1 A2 A3 (M D [A1, A2, A3] 17) (A D [A1, A2, A3] 17) (slab D 18) (andi (cmpf .olt (slab D 18) (M D [A1, A2, A3] 17)) (cmpf .one A1 (broadcast S128x128 (Scalar.ofBits .f32 0x41900000#32)))) (Scalar.ofBits .f32 0x41900000#32) = (do
      pure ⟨(M D [A1, A2, A3] 20), (A D [A1, A2, A3] 20), (slab D 21), (andi (andi (cmpf .olt (slab D 21) (M D [A1, A2, A3] 20)) (cmpf .one A1 (broadcast S128x128 (Scalar.ofBits .f32 0x41A80000#32)))) (cmpf .one A2 (broadcast S128x128 (Scalar.ofBits .f32 0x41A80000#32)))), (cmpf .one A3 (broadcast S128x128 (Scalar.ofBits .f32 0x41A80000#32)))⟩) := rfl

theorem part45_eq (D : FVec F S128x8192 .f32) (A1 A2 A3 : FVec F S128x128 .f32) :
    k1_part45 i arg2 harg2 arg3 harg3 arg4 harg4 arg5 harg5 arg6 harg6 D A1 A2 A3 (M D [A1, A2, A3] 20) (A D [A1, A2, A3] 20) (slab D 21) (andi (andi (cmpf .olt (slab D 21) (M D [A1, A2, A3] 20)) (cmpf .one A1 (broadcast S128x128 (Scalar.ofBits .f32 0x41A80000#32)))) (cmpf .one A2 (broadcast S128x128 (Scalar.ofBits .f32 0x41A80000#32)))) (cmpf .one A3 (broadcast S128x128 (Scalar.ofBits .f32 0x41A80000#32))) = (do
      pure ⟨(M D [A1, A2, A3] 24), (A D [A1, A2, A3] 24), (slab D 25)⟩) := rfl

theorem part46_eq (D : FVec F S128x8192 .f32) (A1 A2 A3 : FVec F S128x128 .f32) :
    k1_part46 i arg2 harg2 arg3 harg3 arg4 harg4 arg5 harg5 arg6 harg6 D A1 A2 A3 (M D [A1, A2, A3] 24) (A D [A1, A2, A3] 24) (slab D 25) = (do
      pure ⟨(M D [A1, A2, A3] 27), (A D [A1, A2, A3] 27), (slab D 28), (andi (cmpf .olt (slab D 28) (M D [A1, A2, A3] 27)) (cmpf .one A1 (broadcast S128x128 (Scalar.ofBits .f32 0x41E00000#32)))), (Scalar.ofBits .f32 0x41E00000#32)⟩) := rfl

theorem part47_eq (D : FVec F S128x8192 .f32) (A1 A2 A3 : FVec F S128x128 .f32) :
    k1_part47 i arg2 harg2 arg3 harg3 arg4 harg4 arg5 harg5 arg6 harg6 D A1 A2 A3 (M D [A1, A2, A3] 27) (A D [A1, A2, A3] 27) (slab D 28) (andi (cmpf .olt (slab D 28) (M D [A1, A2, A3] 27)) (cmpf .one A1 (broadcast S128x128 (Scalar.ofBits .f32 0x41E00000#32)))) (Scalar.ofBits .f32 0x41E00000#32) = (do
      pure ⟨(M D [A1, A2, A3] 30), (A D [A1, A2, A3] 30), (slab D 31), (andi (andi (cmpf .olt (slab D 31) (M D [A1, A2, A3] 30)) (cmpf .one A1 (broadcast S128x128 (Scalar.ofBits .f32 0x41F80000#32)))) (cmpf .one A2 (broadcast S128x128 (Scalar.ofBits .f32 0x41F80000#32)))), (cmpf .one A3 (broadcast S128x128 (Scalar.ofBits .f32 0x41F80000#32)))⟩) := rfl

theorem part48_eq (D : FVec F S128x8192 .f32) (A1 A2 A3 : FVec F S128x128 .f32) :
    k1_part48 i arg2 harg2 arg3 harg3 arg4 harg4 arg5 harg5 arg6 harg6 D A1 A2 A3 (M D [A1, A2, A3] 30) (A D [A1, A2, A3] 30) (slab D 31) (andi (andi (cmpf .olt (slab D 31) (M D [A1, A2, A3] 30)) (cmpf .one A1 (broadcast S128x128 (Scalar.ofBits .f32 0x41F80000#32)))) (cmpf .one A2 (broadcast S128x128 (Scalar.ofBits .f32 0x41F80000#32)))) (cmpf .one A3 (broadcast S128x128 (Scalar.ofBits .f32 0x41F80000#32))) = (do
      pure ⟨(M D [A1, A2, A3] 34), (A D [A1, A2, A3] 34), (slab D 35)⟩) := rfl

theorem part49_eq (D : FVec F S128x8192 .f32) (A1 A2 A3 : FVec F S128x128 .f32) :
    k1_part49 i arg2 harg2 arg3 harg3 arg4 harg4 arg5 harg5 arg6 harg6 D A1 A2 A3 (M D [A1, A2, A3] 34) (A D [A1, A2, A3] 34) (slab D 35) = (do
      pure ⟨(M D [A1, A2, A3] 37), (A D [A1, A2, A3] 37), (slab D 38), (andi (cmpf .olt (slab D 38) (M D [A1, A2, A3] 37)) (cmpf .one A1 (broadcast S128x128 (Scalar.ofBits .f32 0x42180000#32)))), (Scalar.ofBits .f32 0x42180000#32)⟩) := rfl

theorem part50_eq (D : FVec F S128x8192 .f32) (A1 A2 A3 : FVec F S128x128 .f32) :
    k1_part50 i arg2 harg2 arg3 harg3 arg4 harg4 arg5 harg5 arg6 harg6 D A1 A2 A3 (M D [A1, A2, A3] 37) (A D [A1, A2, A3] 37) (slab D 38) (andi (cmpf .olt (slab D 38) (M D [A1, A2, A3] 37)) (cmpf .one A1 (broadcast S128x128 (Scalar.ofBits .f32 0x42180000#32)))) (Scalar.ofBits .f32 0x42180000#32) = (do
      pure ⟨(M D [A1, A2, A3] 40), (A D [A1, A2, A3] 40), (slab D 41), (andi (andi (cmpf .olt (slab D 41) (M D [A1, A2, A3] 40)) (cmpf .one A1 (broadcast S128x128 (Scalar.ofBits .f32 0x42240000#32)))) (cmpf .one A2 (broadcast S128x128 (Scalar.ofBits .f32 0x42240000#32)))), (cmpf .one A3 (broadcast S128x128 (Scalar.ofBits .f32 0x42240000#32)))⟩) := rfl

theorem part51_eq (D : FVec F S128x8192 .f32) (A1 A2 A3 : FVec F S128x128 .f32) :
    k1_part51 i arg2 harg2 arg3 harg3 arg4 harg4 arg5 harg5 arg6 harg6 D A1 A2 A3 (M D [A1, A2, A3] 40) (A D [A1, A2, A3] 40) (slab D 41) (andi (andi (cmpf .olt (slab D 41) (M D [A1, A2, A3] 40)) (cmpf .one A1 (broadcast S128x128 (Scalar.ofBits .f32 0x42240000#32)))) (cmpf .one A2 (broadcast S128x128 (Scalar.ofBits .f32 0x42240000#32)))) (cmpf .one A3 (broadcast S128x128 (Scalar.ofBits .f32 0x42240000#32))) = (do
      pure ⟨(M D [A1, A2, A3] 44), (A D [A1, A2, A3] 44), (slab D 45)⟩) := rfl

theorem part52_eq (D : FVec F S128x8192 .f32) (A1 A2 A3 : FVec F S128x128 .f32) :
    k1_part52 i arg2 harg2 arg3 harg3 arg4 harg4 arg5 harg5 arg6 harg6 D A1 A2 A3 (M D [A1, A2, A3] 44) (A D [A1, A2, A3] 44) (slab D 45) = (do
      pure ⟨(M D [A1, A2, A3] 47), (A D [A1, A2, A3] 47), (slab D 48), (andi (cmpf .olt (slab D 48) (M D [A1, A2, A3] 47)) (cmpf .one A1 (broadcast S128x128 (Scalar.ofBits .f32 0x42400000#32)))), (Scalar.ofBits .f32 0x42400000#32)⟩) := rfl

theorem part53_eq (D : FVec F S128x8192 .f32) (A1 A2 A3 : FVec F S128x128 .f32) :
    k1_part53 i arg2 harg2 arg3 harg3 arg4 harg4 arg5 harg5 arg6 harg6 D A1 A2 A3 (M D [A1, A2, A3] 47) (A D [A1, A2, A3] 47) (slab D 48) (andi (cmpf .olt (slab D 48) (M D [A1, A2, A3] 47)) (cmpf .one A1 (broadcast S128x128 (Scalar.ofBits .f32 0x42400000#32)))) (Scalar.ofBits .f32 0x42400000#32) = (do
      pure ⟨(M D [A1, A2, A3] 50), (A D [A1, A2, A3] 50), (slab D 51), (andi (andi (cmpf .olt (slab D 51) (M D [A1, A2, A3] 50)) (cmpf .one A1 (broadcast S128x128 (Scalar.ofBits .f32 0x424C0000#32)))) (cmpf .one A2 (broadcast S128x128 (Scalar.ofBits .f32 0x424C0000#32)))), (cmpf .one A3 (broadcast S128x128 (Scalar.ofBits .f32 0x424C0000#32)))⟩) := rfl

theorem part54_eq (D : FVec F S128x8192 .f32) (A1 A2 A3 : FVec F S128x128 .f32) :
    k1_part54 i arg2 harg2 arg3 harg3 arg4 harg4 arg5 harg5 arg6 harg6 D A1 A2 A3 (M D [A1, A2, A3] 50) (A D [A1, A2, A3] 50) (slab D 51) (andi (andi (cmpf .olt (slab D 51) (M D [A1, A2, A3] 50)) (cmpf .one A1 (broadcast S128x128 (Scalar.ofBits .f32 0x424C0000#32)))) (cmpf .one A2 (broadcast S128x128 (Scalar.ofBits .f32 0x424C0000#32)))) (cmpf .one A3 (broadcast S128x128 (Scalar.ofBits .f32 0x424C0000#32))) = (do
      pure ⟨(M D [A1, A2, A3] 54), (A D [A1, A2, A3] 54), (slab D 55)⟩) := rfl

theorem part55_eq (D : FVec F S128x8192 .f32) (A1 A2 A3 : FVec F S128x128 .f32) :
    k1_part55 i arg2 harg2 arg3 harg3 arg4 harg4 arg5 harg5 arg6 harg6 D A1 A2 A3 (M D [A1, A2, A3] 54) (A D [A1, A2, A3] 54) (slab D 55) = (do
      pure ⟨(M D [A1, A2, A3] 57), (A D [A1, A2, A3] 57), (slab D 58), (andi (cmpf .olt (slab D 58) (M D [A1, A2, A3] 57)) (cmpf .one A1 (broadcast S128x128 (Scalar.ofBits .f32 0x42680000#32)))), (Scalar.ofBits .f32 0x42680000#32)⟩) := rfl

theorem part56_eq (D : FVec F S128x8192 .f32) (A1 A2 A3 : FVec F S128x128 .f32) :
    k1_part56 i arg2 harg2 arg3 harg3 arg4 harg4 arg5 harg5 arg6 harg6 D A1 A2 A3 (M D [A1, A2, A3] 57) (A D [A1, A2, A3] 57) (slab D 58) (andi (cmpf .olt (slab D 58) (M D [A1, A2, A3] 57)) (cmpf .one A1 (broadcast S128x128 (Scalar.ofBits .f32 0x42680000#32)))) (Scalar.ofBits .f32 0x42680000#32) = (do
      pure ⟨(M D [A1, A2, A3] 60), (A D [A1, A2, A3] 60), (slab D 61), (andi (andi (cmpf .olt (slab D 61) (M D [A1, A2, A3] 60)) (cmpf .one A1 (broadcast S128x128 (Scalar.ofBits .f32 0x42740000#32)))) (cmpf .one A2 (broadcast S128x128 (Scalar.ofBits .f32 0x42740000#32)))), (cmpf .one A3 (broadcast S128x128 (Scalar.ofBits .f32 0x42740000#32)))⟩) := rfl

theorem part57_eq (D : FVec F S128x8192 .f32) (A1 A2 A3 : FVec F S128x128 .f32) :
    k1_part57 i arg2 harg2 arg3 harg3 arg4 harg4 arg5 harg5 arg6 harg6 D A1 A2 A3 (M D [A1, A2, A3] 60) (A D [A1, A2, A3] 60) (slab D 61) (andi (andi (cmpf .olt (slab D 61) (M D [A1, A2, A3] 60)) (cmpf .one A1 (broadcast S128x128 (Scalar.ofBits .f32 0x42740000#32)))) (cmpf .one A2 (broadcast S128x128 (Scalar.ofBits .f32 0x42740000#32)))) (cmpf .one A3 (broadcast S128x128 (Scalar.ofBits .f32 0x42740000#32))) = (do
      pure ⟨(M D [A1, A2, A3] 63), (gg A1), (gg A2), (gg A3), (gg (A D [A1, A2, A3] 63))⟩) := rfl

theorem part58_eq (m1 m2 m3 m4 g1 g2 g3 g4 : FVec F S128x128 .f32) :
    k1_part58 i arg2 harg2 arg3 harg3 arg4 harg4 arg5 harg5 arg6 harg6 m1 m2 m3 m4 g1 g2 g3 g4 = (do
      let _ : Vec F S1x128x1 .i32 ← Prog.lift (.load arg6 (Rect.unit (s := S1x128x9) ![0, 0, 0] S1x128x1.size inb_S1x128x9_S1x128x1_0_0_0).toLoadRect (View.loadsAt_vmem h_S1x128x1))
      Prog.lift (.store arg6 (Rect.unit (s := S1x128x9) ![0, 0, 0] S1x128x1.size inb_S1x128x9_S1x128x1_0_0_0) (shapeCast S1x128x1 (HS.mk m1 m2 m3 m4 g1 g2 g3 g4).wi shapeCasts_S128x1_S1x128x1) Finset.univ (View.stores_vmem_bits_univ h_S1x128x1 rfl) (.inl rfl))
      pure ⟨(HS.mk m1 m2 m3 m4 g1 g2 g3 g4).step.step.m1, (HS.mk m1 m2 m3 m4 g1 g2 g3 g4).step.step.m2, (HS.mk m1 m2 m3 m4 g1 g2 g3 g4).step.step.m3, (HS.mk m1 m2 m3 m4 g1 g2 g3 g4).step.step.m4, (HS.mk m1 m2 m3 m4 g1 g2 g3 g4).step.step.g1, (HS.mk m1 m2 m3 m4 g1 g2 g3 g4).step.step.g2, (HS.mk m1 m2 m3 m4 g1 g2 g3 g4).step.step.g3, (HS.mk m1 m2 m3 m4 g1 g2 g3 g4).step.step.cand⟩) := rfl

theorem part59_eq (s : HS F) :
    k1_part59 i arg2 harg2 arg3 harg3 arg4 harg4 arg5 harg5 arg6 harg6 s.g4 s.m1 s.m2 s.m3 s.m4 s.g1 s.g2 s.g3 s.cand = (do
      let _ : Vec F S1x128x1 .i32 ← Prog.lift (.load arg6 (Rect.unit (s := S1x128x9) ![0, 0, 1] S1x128x1.size inb_S1x128x9_S1x128x1_0_0_1).toLoadRect (View.loadsAt_vmem h_S1x128x1))
      Prog.lift (.store arg6 (Rect.unit (s := S1x128x9) ![0, 0, 1] S1x128x1.size inb_S1x128x9_S1x128x1_0_0_1) (shapeCast S1x128x1 s.wi shapeCasts_S128x1_S1x128x1) Finset.univ (View.stores_vmem_bits_univ h_S1x128x1 rfl) (.inl rfl))
      let _ : Vec F S1x128x1 .i32 ← Prog.lift (.load arg6 (Rect.unit (s := S1x128x9) ![0, 0, 2] S1x128x1.size inb_S1x128x9_S1x128x1_0_0_2).toLoadRect (View.loadsAt_vmem h_S1x128x1))
      pure ⟨s.step.step.m1, s.step.step.m2, s.step.step.m3, s.step.step.m4, s.step.step.g1, s.step.step.g2, s.step.step.g3, s.step.step.wg, s.step.step.wi⟩) := rfl

theorem part60_eq (s : HS F) :
    k1_part60 i arg2 harg2 arg3 harg3 arg4 harg4 arg5 harg5 arg6 harg6 s.g4 s.m1 s.m2 s.m3 s.m4 s.g1 s.g2 s.g3 s.wg s.wi = (do
      Prog.lift (.store arg6 (Rect.unit (s := S1x128x9) ![0, 0, 2] S1x128x1.size inb_S1x128x9_S1x128x1_0_0_2) (shapeCast S1x128x1 s.wi shapeCasts_S128x1_S1x128x1) Finset.univ (View.stores_vmem_bits_univ h_S1x128x1 rfl) (.inl rfl))
      let _ : Vec F S1x128x1 .i32 ← Prog.lift (.load arg6 (Rect.unit (s := S1x128x9) ![0, 0, 3] S1x128x1.size inb_S1x128x9_S1x128x1_0_0_3).toLoadRect (View.loadsAt_vmem h_S1x128x1))
      Prog.lift (.store arg6 (Rect.unit (s := S1x128x9) ![0, 0, 3] S1x128x1.size inb_S1x128x9_S1x128x1_0_0_3) (shapeCast S1x128x1 s.step.step.wi shapeCasts_S128x1_S1x128x1) Finset.univ (View.stores_vmem_bits_univ h_S1x128x1 rfl) (.inl rfl))
      pure ⟨s.step.step.m4, s.step.step.g1, s.step.step.g2, s.step.step.g3, s.step.step.hit, s.step.step.step.m1, s.step.step.step.m2, s.step.step.step.m3, (Scalar.ofBits .f32 0x7149F2CA#32)⟩) := rfl

theorem part61_eq (s : HS F) :
    k1_part61 i arg2 harg2 arg3 harg3 arg4 harg4 arg5 harg5 arg6 harg6 s.g4 s.m4 s.g1 s.g2 s.g3 s.hit s.step.m1 s.step.m2 s.step.m3 (Scalar.ofBits .f32 0x7149F2CA#32) = (do
      let _ : Vec F S1x128x1 .i32 ← Prog.lift (.load arg6 (Rect.unit (s := S1x128x9) ![0, 0, 4] S1x128x1.size inb_S1x128x9_S1x128x1_0_0_4).toLoadRect (View.loadsAt_vmem h_S1x128x1))
      Prog.lift (.store arg6 (Rect.unit (s := S1x128x9) ![0, 0, 4] S1x128x1.size inb_S1x128x9_S1x128x1_0_0_4) (shapeCast S1x128x1 s.step.step.wi shapeCasts_S128x1_S1x128x1) Finset.univ (View.stores_vmem_bits_univ h_S1x128x1 rfl) (.inl rfl))
      pure ⟨s.step.step.step.m1, s.step.step.step.m2, s.step.step.step.m3, s.step.step.step.m4, s.step.step.step.g1, s.step.step.step.g2, s.step.step.step.g3, s.step.step.step.w⟩) := rfl

theorem part62_eq (s : HS F) :
    k1_part62 i arg2 harg2 arg3 harg3 arg4 harg4 arg5 harg5 arg6 harg6 s.g4 s.m1 s.m2 s.m3 s.m4 s.g1 s.g2 s.g3 s.w = (do
      let _ : Vec F S1x128x1 .i32 ← Prog.lift (.load arg6 (Rect.unit (s := S1x128x9) ![0, 0, 5] S1x128x1.size inb_S1x128x9_S1x128x1_0_0_5).toLoadRect (View.loadsAt_vmem h_S1x128x1))
      Prog.lift (.store arg6 (Rect.unit (s := S1x128x9) ![0, 0, 5] S1x128x1.size inb_S1x128x9_S1x128x1_0_0_5) (shapeCast S1x128x1 s.step.wi shapeCasts_S128x1_S1x128x1) Finset.univ (View.stores_vmem_bits_univ h_S1x128x1 rfl) (.inl rfl))
      pure ⟨s.step.step.m1, s.step.step.m2, s.step.step.m3, s.step.step.m4, s.step.step.g1, s.step.step.g2, s.step.step.g3, s.step.step.wg⟩) := rfl

theorem part63_eq (s : HS F) :
    k1_part63 i arg2 harg2 arg3 harg3 arg4 harg4 arg5 harg5 arg6 harg6 s.g4 s.m1 s.m2 s.m3 s.m4 s.g1 s.g2 s.g3 s.wg = (do
      let _ : Vec F S1x128x1 .i32 ← Prog.lift (.load arg6 (Rect.unit (s := S1x128x9) ![0, 0, 6] S1x128x1.size inb_S1x128x9_S1x128x1_0_0_6).toLoadRect (View.loadsAt_vmem h_S1x128x1))
      Prog.lift (.store arg6 (Rect.unit (s := S1x128x9) ![0, 0, 6] S1x128x1.size inb_S1x128x9_S1x128x1_0_0_6) (shapeCast S1x128x1 s.step.wi shapeCasts_S128x1_S1x128x1) Finset.univ (View.stores_vmem_bits_univ h_S1x128x1 rfl) (.inl rfl))
      pure ⟨s.step.step.g1, s.step.step.g2, s.step.step.g3, s.step.step.hit, s.step.step.step.m1, s.step.step.step.m2, s.step.step.step.m3, s.step.step.step.m4⟩) := rfl

theorem part64_eq (s : HS F) :
    k1_part64 i arg2 harg2 arg3 harg3 arg4 harg4 arg5 harg5 arg6 harg6 s.g4 s.g1 s.g2 s.g3 s.hit s.step.m1 s.step.m2 s.step.m3 s.step.m4 = (do
      let _ : Vec F S1x128x1 .i32 ← Prog.lift (.load arg6 (Rect.unit (s := S1x128x9) ![0, 0, 7] S1x128x1.size inb_S1x128x9_S1x128x1_0_0_7).toLoadRect (View.loadsAt_vmem h_S1x128x1))
      Prog.lift (.store arg6 (Rect.unit (s := S1x128x9) ![0, 0, 7] S1x128x1.size inb_S1x128x9_S1x128x1_0_0_7) (shapeCast S1x128x1 s.step.wi shapeCasts_S128x1_S1x128x1) Finset.univ (View.stores_vmem_bits_univ h_S1x128x1 rfl) (.inl rfl))
      pure ⟨s.step.step.step.m1, s.step.step.step.m2, s.step.step.step.m3, s.step.step.step.g1, s.step.step.step.g2, s.step.step.step.cand⟩) := rfl

theorem part1_eq (D : FVec F S128x8192 .f32) :
    k1_part1 i arg2 harg2 arg3 harg3 arg4 harg4 arg5 harg5 arg6 harg6 (D) = (do
      let _ : Vec F S1x128x1 .i32 ← Prog.lift (.load arg6 (Rect.unit (s := S1x128x9) ![0, 0, 0] S1x128x1.size inb_S1x128x9_S1x128x1_0_0_0).toLoadRect (View.loadsAt_vmem h_S1x128x1))
      Prog.lift (.store arg6 (Rect.unit (s := S1x128x9) ![0, 0, 0] S1x128x1.size inb_S1x128x9_S1x128x1_0_0_0) (shapeCast S1x128x1 (fptosi 32 (fbw (fb D 0))) shapeCasts_S128x1_S1x128x1) Finset.univ (View.stores_vmem_bits_univ h_S1x128x1 rfl) (.inl rfl))
      let _ : Vec F S1x128x1 .i32 ← Prog.lift (.load arg6 (Rect.unit (s := S1x128x9) ![0, 0, 1] S1x128x1.size inb_S1x128x9_S1x128x1_0_0_1).toLoadRect (View.loadsAt_vmem h_S1x128x1))
      pure ⟨lanes2, (fb D 2), (fbw (fb D 2)), (shapeCast S1x128x1 (fptosi 32 (fbw (fb D 2))) shapeCasts_S128x1_S1x128x1)⟩) := rfl

theorem part2_eq (D : FVec F S128x8192 .f32) :
    k1_part2 i arg2 harg2 arg3 harg3 arg4 harg4 arg5 harg5 arg6 harg6 lanes2 ((fb D 2)) ((fbw (fb D 2))) (shapeCast S1x128x1 (fptosi 32 (fbw (fb D 2))) shapeCasts_S128x1_S1x128x1) = (do
      Prog.lift (.store arg6 (Rect.unit (s := S1x128x9) ![0, 0, 1] S1x128x1.size inb_S1x128x9_S1x128x1_0_0_1) (shapeCast S1x128x1 (fptosi 32 (fbw (fb D 2))) shapeCasts_S128x1_S1x128x1) Finset.univ (View.stores_vmem_bits_univ h_S1x128x1 rfl) (.inl rfl))
      let _ : Vec F S1x128x1 .i32 ← Prog.lift (.load arg6 (Rect.unit (s := S1x128x9) ![0, 0, 2] S1x128x1.size inb_S1x128x9_S1x128x1_0_0_2).toLoadRect (View.loadsAt_vmem h_S1x128x1))
      Prog.lift (.store arg6 (Rect.unit (s := S1x128x9) ![0, 0, 2] S1x128x1.size inb_S1x128x9_S1x128x1_0_0_2) (shapeCast S1x128x1 (fptosi 32 (fbw (fb D 4))) shapeCasts_S128x1_S1x128x1) Finset.univ (View.stores_vmem_bits_univ h_S1x128x1 rfl) (.inl rfl))
      pure ⟨(fb D 5), (cmpf .oeq lanes2 (broadcastTo S128x8192 (fbw (fb D 5)) broadcasts_S128x1_S128x8192)), (Scalar.ofBits .f32 0x7149F2CA#32)⟩) := rfl

theorem part3_eq (D : FVec F S128x8192 .f32) :
    k1_part3 i arg2 harg2 arg3 harg3 arg4 harg4 arg5 harg5 arg6 harg6 lanes2 ((fb D 5)) (cmpf .oeq lanes2 (broadcastTo S128x8192 (fbw (fb D 5)) broadcasts_S128x1_S128x8192)) (Scalar.ofBits .f32 0x7149F2CA#32) = (do
      let _ : Vec F S1x128x1 .i32 ← Prog.lift (.load arg6 (Rect.unit (s := S1x128x9) ![0, 0, 3] S1x128x1.size inb_S1x128x9_S1x128x1_0_0_3).toLoadRect (View.loadsAt_vmem h_S1x128x1))
      Prog.lift (.store arg6 (Rect.unit (s := S1x128x9) ![0, 0, 3] S1x128x1.size inb_S1x128x9_S1x128x1_0_0_3) (shapeCast S1x128x1 (fptosi 32 (fbw (fb D 6))) shapeCasts_S128x1_S1x128x1) Finset.univ (View.stores_vmem_bits_univ h_S1x128x1 rfl) (.inl rfl))
      let _ : Vec F S1x128x1 .i32 ← Prog.lift (.load arg6 (Rect.unit (s := S1x128x9) ![0, 0, 4] S1x128x1.size inb_S1x128x9_S1x128x1_0_0_4).toLoadRect (View.loadsAt_vmem h_S1x128x1))
      pure ⟨(fb D 8), (fbw (fb D 8)), (shapeCast S1x128x1 (fptosi 32 (fbw (fb D 8))) shapeCasts_S128x1_S1x128x1)⟩) := rfl

theorem part4_eq (D : FVec F S128x8192 .f32) :
    k1_part4 i arg2 harg2 arg3 harg3 arg4 harg4 arg5 harg5 arg6 harg6 lanes2 ((fb D 8)) ((fbw (fb D 8))) (shapeCast S1x128x1 (fptosi 32 (fbw (fb D 8))) shapeCasts_S128x1_S1x128x1) = (do
      Prog.lift (.store arg6 (Rect.unit (s := S1x128x9) ![0, 0, 4] S1x128x1.size inb_S1x128x9_S1x128x1_0_0_4) (shapeCast S1x128x1 (fptosi 32 (fbw (fb D 8))) shapeCasts_S128x1_S1x128x1) Finset.univ (View.stores_vmem_bits_univ h_S1x128x1 rfl) (.inl rfl))
      let _ : Vec F S1x128x1 .i32 ← Prog.lift (.load arg6 (Rect.unit (s := S1x128x9) ![0, 0, 5] S1x128x1.size inb_S1x128x9_S1x128x1_0_0_5).toLoadRect (View.loadsAt_vmem h_S1x128x1))
      Prog.lift (.store arg6 (Rect.unit (s := S1x128x9) ![0, 0, 5] S1x128x1.size inb_S1x128x9_S1x128x1_0_0_5) (shapeCast S1x128x1 (fptosi 32 (fbw (fb D 10))) shapeCasts_S128x1_S1x128x1) Finset.univ (View.stores_vmem_bits_univ h_S1x128x1 rfl) (.inl rfl))
      pure ⟨(fb D 11), (cmpf .oeq lanes2 (broadcastTo S128x8192 (fbw (fb D 11)) broadcasts_S128x1_S128x8192)), (Scalar.ofBits .f32 0x7149F2CA#32)⟩) := rfl

theorem part5_eq (D : FVec F S128x8192 .f32) :
    k1_part5 i arg2 harg2 arg3 harg3 arg4 harg4 arg5 harg5 arg6 harg6 lanes2 ((fb D 11)) (cmpf .oeq lanes2 (broadcastTo S128x8192 (fbw (fb D 11)) broadcasts_S128x1_S128x8192)) (Scalar.ofBits .f32 0x7149F2CA#32) = (do
      let _ : Vec F S1x128x1 .i32 ← Prog.lift (.load arg6 (Rect.unit (s := S1x128x9) ![0, 0, 6] S1x128x1.size inb_S1x128x9_S1x128x1_0_0_6).toLoadRect (View.loadsAt_vmem h_S1x128x1))
      Prog.lift (.store arg6 (Rect.unit (s := S1x128x9) ![0, 0, 6] S1x128x1.size inb_S1x128x9_S1x128x1_0_0_6) (shapeCast S1x128x1 (fptosi 32 (fbw (fb D 12))) shapeCasts_S128x1_S1x128x1) Finset.univ (View.stores_vmem_bits_univ h_S1x128x1 rfl) (.inl rfl))
      let _ : Vec F S1x128x1 .i32 ← Prog.lift (.load arg6 (Rect.unit (s := S1x128x9) ![0, 0, 7] S1x128x1.size inb_S1x128x9_S1x128x1_0_0_7).toLoadRect (View.loadsAt_vmem h_S1x128x1))
      pure ⟨(fb D 14), (fbw (fb D 14)), (shapeCast S1x128x1 (fptosi 32 (fbw (fb D 14))) shapeCasts_S128x1_S1x128x1)⟩) := rfl

/-! ## The whole body -/

/-- The merge's state before its first round, -/
def hs0 (D : FVec F S128x8192 .f32) : HS F :=
  let A1 := A D [] 63
  let A2 := A D [A1] 63
  let A3 := A D [A1, A2] 63
  ⟨M D [] 63, M D [A1] 63, M D [A1, A2] 63, M D [A1, A2, A3] 63, gg A1, gg A2, gg A3, gg (A D [A1, A2, A3] 63)⟩
/-- and after `j` rounds. -/
def hs (D : FVec F S128x8192 .f32) : ℕ → HS F
  | 0 => hs0 D
  | j + 1 => (hs D j).step

/-- Whether some lane ran out with its fourth value within the last round's bound. -/
def need (s : HS F) (m4 : FVec F S128x128 .f32) : BitVec 1 :=
  Scalar.cmpi .ne (Scalar.extui (Scalar.cmpf .ogt
    (extractAt ![0, 0, 0] (shapeCast S1x1x1 (multiReduction .maximumf [1, 2] S1
      (shapeCast S1x128x128 (select (andi (cmpf .oeq s.step.m1 (bc 0x7149F2CA#32)) (cmpf .ole m4 (broadcastTo S128x128 s.w broadcasts_S128x1_S128x128)))
        (bc 0x3F800000#32) (bc 0x00000000#32)) shapeCasts_S128x128_S1x128x128 : FVec F S1x128x128 .f32) 0xFF800000#32 reduces_S1x128x128_S1 (.inl rfl) rfl : FVec F S1 .f32) shapeCasts_S1_S1x1x1 : FVec F S1x1x1 .f32)
      inpos_S1x1x1_p0_0_0) (Scalar.ofBits .f32 0x00000000#32 : F .f32)) : BitVec 32) 0#32

/-- One column of the result stored (the column is read first, to no effect). -/
def put (k : ℕ) (hk : ∀ a, (![0, 0, k] : Fin 3 → Nat) a + S1x128x1.size a ≤ S1x128x9.size a) (v : IVec S128x1 32) :
    Prog (TpuEff nD τ sig (Elt F) Λ₀ .tc) PUnit := do
  let _ : Vec F S1x128x1 .i32 ← Prog.lift (.load arg6 (Rect.unit (s := S1x128x9) ![0, 0, k] S1x128x1.size hk).toLoadRect (View.loadsAt_vmem h_S1x128x1))
  Prog.lift (.store arg6 (Rect.unit (s := S1x128x9) ![0, 0, k] S1x128x1.size hk) (shapeCast S1x128x1 v shapeCasts_S128x1_S1x128x1) Finset.univ (View.stores_vmem_bits_univ h_S1x128x1 rfl) (.inl rfl))

/-- The body: the four blocks read, nine columns of the merge stored, and, where a lane ran out, nine exact ones over them. -/
def compact : Prog (TpuEff nD τ sig (Elt F) Λ₀ .tc) PUnit := do
  let v0 : Vec F S1x128x256 .bf16 ← Prog.lift (.load arg2 (Rect.unit (s := S1x128x256) ![0, 0, 0] S1x128x256.size inb_S1x128x256_S1x128x256_0_0_0).toLoadRect (View.loadsAt_vmem h_S1x128x256))
  let v2 : Vec F S1x256x8192 .bf16 ← Prog.lift (.load arg3 (Rect.unit (s := S1x256x8192) ![0, 0, 0] S1x256x8192.size inb_S1x256x8192_S1x256x8192_0_0_0).toLoadRect (View.loadsAt_vmem h_S1x256x8192))
  let v8 : Vec F S1x128x1 .f32 ← Prog.lift (.load (arg4.slice (Rect.unit (s := S1x128x1) ![0, 0, 0] S1x128x1.size inb_S1x128x1_S1x128x1_0_0_0) (fun _ => rfl)) (Rect.unit (s := S1x128x1) ![0, 0, 0] S1x128x1.size inb_S1x128x1_S1x128x1_0_0_0).toLoadRect (View.loadsAt_vmem h_S1x128x1))
  let v12 : Vec F S1x1x8192 .f32 ← Prog.lift (.load arg5 (Rect.unit (s := S1x1x8192) ![0, 0, 0] S1x1x8192.size inb_S1x1x8192_S1x1x8192_0_0_0).toLoadRect (View.loadsAt_vmem h_S1x1x8192))
  put arg6 0 inb_S1x128x9_S1x128x1_0_0_0 (hs (dist v0 v2 v8 v12) 0).wi
  put arg6 1 inb_S1x128x9_S1x128x1_0_0_1 (hs (dist v0 v2 v8 v12) 2).wi
  put arg6 2 inb_S1x128x9_S1x128x1_0_0_2 (hs (dist v0 v2 v8 v12) 4).wi
  put arg6 3 inb_S1x128x9_S1x128x1_0_0_3 (hs (dist v0 v2 v8 v12) 6).wi
  put arg6 4 inb_S1x128x9_S1x128x1_0_0_4 (hs (dist v0 v2 v8 v12) 8).wi
  put arg6 5 inb_S1x128x9_S1x128x1_0_0_5 (hs (dist v0 v2 v8 v12) 10).wi
  put arg6 6 inb_S1x128x9_S1x128x1_0_0_6 (hs (dist v0 v2 v8 v12) 12).wi
  put arg6 7 inb_S1x128x9_S1x128x1_0_0_7 (hs (dist v0 v2 v8 v12) 14).wi
  put arg6 8 inb_S1x128x9_S1x128x1_0_0_8 (hs (dist v0 v2 v8 v12) 16).wi
  if need (hs (dist v0 v2 v8 v12) 17) (hs0 (dist v0 v2 v8 v12)).m4 = 1#1 then do
    put arg6 0 inb_S1x128x9_S1x128x1_0_0_0 (fptosi 32 (fbw (fb (dist v0 v2 v8 v12) 0)))
    put arg6 1 inb_S1x128x9_S1x128x1_0_0_1 (fptosi 32 (fbw (fb (dist v0 v2 v8 v12) 2)))
    put arg6 2 inb_S1x128x9_S1x128x1_0_0_2 (fptosi 32 (fbw (fb (dist v0 v2 v8 v12) 4)))
    put arg6 3 inb_S1x128x9_S1x128x1_0_0_3 (fptosi 32 (fbw (fb (dist v0 v2 v8 v12) 6)))
    put arg6 4 inb_S1x128x9_S1x128x1_0_0_4 (fptosi 32 (fbw (fb (dist v0 v2 v8 v12) 8)))
    put arg6 5 inb_S1x128x9_S1x128x1_0_0_5 (fptosi 32 (fbw (fb (dist v0 v2 v8 v12) 10)))
    put arg6 6 inb_S1x128x9_S1x128x1_0_0_6 (fptosi 32 (fbw (fb (dist v0 v2 v8 v12) 12)))
    put arg6 7 inb_S1x128x9_S1x128x1_0_0_7 (fptosi 32 (fbw (fb (dist v0 v2 v8 v12) 14)))
    put arg6 8 inb_S1x128x9_S1x128x1_0_0_8 (fptosi 32 (fbw (fb (dist v0 v2 v8 v12) 16)))
    pure ⟨⟩
  else pure ⟨⟩
  pure ⟨⟩

set_option maxRecDepth 100000 in
/-- The printed body is the compact one. -/
theorem body_eq : cc1__topk_body (F := F) i arg2 harg2 arg3 harg3 arg4 harg4 arg5 harg5 arg6 harg6 = compact arg2 arg3 arg4 arg5 arg6 := by
  unfold cc1__topk_body k1_part65 compact put
  simp only [part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, part55_eq, part56_eq, part57_eq, part58_eq, part59_eq, part60_eq, part61_eq, part62_eq, part63_eq, part64_eq, bind_assoc, pure_bind]
  rfl

end Cert.Proof.KernelIdeal

end
-- ==== Proof.RunI.lean ====
module

public import proofs.«01_k».proof.Proof.BodyI
public import Idealize.ShloMosaic.Lib.Tactic
public import Idealize.ShloMosaic.Lib.Pipeline.Kit
public import Idealize.ShloMosaic.Lib.Pipeline.Value
public import Idealize.ShloMosaic.Lib.VecWindow
public import Idealize.ShloMosaic.Lib.Writes

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra. -/
abbrev UU (nD : Nat) (τ : Topo) : Type := UR sig nD τ × Counters

local notation "𝕄" => MT nD τ sig Unit (Elt F) ℕ (UU nD τ) ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One column of the result as a piece of the block. -/
def pc (k : ℕ) (hk : ∀ a, (![0, 0, k] : Fin 3 → Nat) a + S1x128x1.size a ≤ S1x128x9.size a) (v : IVec S128x1 32) : View.Piece (Elt F) S1x128x9 .i32 :=
  ⟨Rect.unit (s := S1x128x9) ![0, 0, k] S1x128x1.size hk, (shapeCast S1x128x1 v shapeCasts_S128x1_S1x128x1 : IVec S1x128x1 32)⟩

/-- A row of the block as an index of a column. -/
def rowOf (y : S1x128x9.Idx) : S128x1.Idx := fun a => match a with | 0 => y 1 | 1 => (0 : Fin 1)

/-- A stored column read back: its own values at its own number, what was there before elsewhere. -/
theorem read_pc {sp : Space} (v : View sig .tc sp S1x128x9 .i32) (f : v.ty.Contents (Elt F)) (k : ℕ) (hk) (w : IVec S128x1 32)
    (L : List (View.Piece (Elt F) S1x128x9 .i32)) (y : S1x128x9.Idx) :
    v.read (Elt F) (v.writes (Elt F) f (pc k hk w :: L)) y = if (y 2).val = k then w (rowOf y) else v.read (Elt F) (v.writes (Elt F) f L) y := by
  split
  · rename_i h
    refine (View.read_writes_cons_hit_of_coords v f _ _ L (fun a => match a with | 0 => (0 : Fin 1) | 1 => y 1 | 2 => (0 : Fin 1) : S1x128x1.Idx) y ?_).trans ?_
    · intro a
      match a with
      | 0 => show (y 0).val = 0 + 1 * 0; have h0 : (y 0).val < 1 := (y 0).isLt; omega
      | 1 => show (y 1).val = 0 + 1 * (y 1).val; omega
      | 2 => show (y 2).val = k + 1 * 0; omega
    · refine shapeCast_apply _ _ _ _ ?_
      rw [Shape.rowMajor_val_two, Shape.rowMajor_val_three]
      show (y 1).val * 1 + 0 = (0 * 128 + (y 1).val) * 1 + 0
      omega
  · rename_i h
    refine View.read_writes_cons_miss_of_axis v f _ L y 2 k 1 rfl rfl rfl ?_
    omega

/-- The block the body leaves: nine even rounds' columns, of the merge, or, where a lane ran out, of the exact rounds. -/
def outFn (D : FVec F S128x8192 .f32) : IVec S1x128x9 32 := fun y =>
  if need (hs D 17) (hs0 D).m4 = 1#1 then (fptosi 32 (fbw (fb D (2 * (y 2).val))) : IVec S128x1 32) (rowOf y) else (hs D (2 * (y 2).val)).wi (rowOf y)

theorem read_nine {sp : Space} (v : View sig .tc sp S1x128x9 .i32) (f : v.ty.Contents (Elt F)) (w : ℕ → IVec S128x1 32)
    (L : List (View.Piece (Elt F) S1x128x9 .i32)) :
    v.read (Elt F) (v.writes (Elt F) f (pc 8 inb_S1x128x9_S1x128x1_0_0_8 (w 16) :: pc 7 inb_S1x128x9_S1x128x1_0_0_7 (w 14) :: pc 6 inb_S1x128x9_S1x128x1_0_0_6 (w 12)
      :: pc 5 inb_S1x128x9_S1x128x1_0_0_5 (w 10) :: pc 4 inb_S1x128x9_S1x128x1_0_0_4 (w 8) :: pc 3 inb_S1x128x9_S1x128x1_0_0_3 (w 6)
      :: pc 2 inb_S1x128x9_S1x128x1_0_0_2 (w 4) :: pc 1 inb_S1x128x9_S1x128x1_0_0_1 (w 2) :: pc 0 inb_S1x128x9_S1x128x1_0_0_0 (w 0) :: L))
    = fun y => w (2 * (y 2).val) (rowOf y) := by
  funext y
  simp only [read_pc]
  have h : (y 2).val < 9 := (y 2).isLt
  generalize (y 2).val = n at h ⊢
  match n, h with
  | 0, _ => rfl
  | 1, _ => rfl
  | 2, _ => rfl
  | 3, _ => rfl
  | 4, _ => rfl
  | 5, _ => rfl
  | 6, _ => rfl
  | 7, _ => rfl
  | 8, _ => rfl

theorem topkRun (c : Dev nD) (M2 : Memref sig .tc .vmem S1x128x256 .bf16) (h2 : M2.IsWhole) (M3 : Memref sig .tc .vmem S1x256x8192 .bf16) (h3 : M3.IsWhole)
    (M4 : Memref sig .tc .vmem S1x128x1 .f32) (h4 : M4.IsWhole) (M5 : Memref sig .tc .vmem S1x1x8192 .f32) (h5 : M5.IsWhole)
    (M6 : Memref sig .tc .vmem S1x128x9 .i32) (h6 : M6.IsWhole)
    (f2 : Bf (F := F) c M2) (f3 : Bf (F := F) c M3) (f4 : Bf (F := F) c M4) (f5 : Bf (F := F) c M5) (f6 : Bf (F := F) c M6)
    (Q : PUnit → sProp 𝕄) :
    iprop(pt c M2 f2 ∗ pt c M3 f3 ∗ pt c M4 f4 ∗ pt c M5 f5 ∗ pt c M6 f6
      ∗ (iprop(pt c M2 f2 ∗ pt c M3 f3 ∗ pt c M4 f4 ∗ pt c M5 f5 ∗ ∃ f, ⌜M6.view.read (Elt F) f = outFn (dist (M2.view.read (Elt F) f2) (M3.view.read (Elt F) f3) (M4.view.read (Elt F) f4) (M5.view.read (Elt F) f5))⌝ ∗ pt c M6 f) -∗ Q ⟨⟩))
    ⊢ wp frame (wpE (defs₀ (F := F)) Variants.none c none) Set.univ
        (compact M2 M3 M4 M5 M6) Q := by
  unfold compact put
  iintro ⟨H2, H3, H4, H5, H6, Hk⟩
  sl_exec!
  sl_step
  iapply Hk
  isplitl [H2]; · iexact H2
  isplitl [H3]; · iexact H3
  isplitl [H4]; · iexact H4
  isplitl [H5]; · iexact H5
  iexists _
  isplitr
  swap
  · iexact H6
  ipureintro
  have e2 := View.readAt_full M2.view f2 (off := ![0, 0, 0]) inb_S1x128x256_S1x128x256_0_0_0
  have e3 := View.readAt_full M3.view f3 (off := ![0, 0, 0]) inb_S1x256x8192_S1x256x8192_0_0_0
  have e5 := View.readAt_full M5.view f5 (off := ![0, 0, 0]) inb_S1x1x8192_S1x1x8192_0_0_0
  have e4 : M4.view.readAt (Elt F) ((Rect.unit (s := S1x128x1) ![0, 0, 0] S1x128x1.size inb_S1x128x1_S1x128x1_0_0_0).withinL
      (Rect.unit (s := S1x128x1) ![0, 0, 0] S1x128x1.size inb_S1x128x1_S1x128x1_0_0_0).toLoadRect (fun _ => rfl)) f4 = M4.view.read (Elt F) f4 := by
    funext y
    let r : Rect S1x128x1 := Rect.unit (s := S1x128x1) ![0, 0, 0] S1x128x1.size inb_S1x128x1_S1x128x1_0_0_0
    let r' : LoadRect r.shape := (Rect.unit (s := S1x128x1) ![0, 0, 0] S1x128x1.size inb_S1x128x1_S1x128x1_0_0_0).toLoadRect
    refine (congrArg (M4.view.read (Elt F) f4) (Rect.idx_withinL r r' (fun _ => rfl) y)).trans
      (congrArg (M4.view.read (Elt F) f4) (a₂ := y) (funext fun a => Fin.ext ?_))
    match a with
    | 0 => show 0 + 1 * (0 + 1 * (y 0).val) = (y 0).val; omega
    | 1 => show 0 + 1 * (0 + 1 * (y 1).val) = (y 1).val; omega
    | 2 => show 0 + 1 * (0 + 1 * (y 2).val) = (y 2).val; omega
  generalize hD : dist (M2.view.read (Elt F) f2) (M3.view.read (Elt F) f3) (M4.view.read (Elt F) f4) (M5.view.read (Elt F) f5) = D
  delta topkRun.sl.H6_9
  simp only [e2, e3, e4, e5, hD]
  unfold outFn
  split
  · exact read_nine M6.view f6 (fun k => fptosi 32 (fbw (fb D k))) _
  · exact read_nine M6.view f6 (fun k => (hs D k).wi) []

/-- A store over the whole view, read back. -/
theorem read_store_full {sp : Space} {S : Shape} {e : EltTy} (v : View sig .tc sp S e) (f : v.ty.Contents (Elt F)) {off : Fin S.rank → ℕ}
    (inb : ∀ a, off a + S.size a ≤ S.size a) (w : (Rect.unit off S.size inb).shape.Idx → Elt F e) :
    v.read (Elt F) (v.writes (Elt F) f [⟨Rect.unit off S.size inb, w⟩]) = w := by
  funext y
  refine View.read_writes_cons_hit_of_coords v f (Rect.unit off S.size inb) w [] y y fun a => ?_
  show (y a).val = off a + 1 * (y a).val
  have := inb a
  omega

/-- The norm kernel's first result: the points divided by their norms (those clamped from below); -/
def nrm (x : FVec F S1x256x8192 .f32) : FVec F S256x8192 .f32 :=
  divf (shapeCast S256x8192 x shapeCasts_S1x256x8192_S256x8192)
    (broadcastTo S256x8192 (maximumf (sqrt (shapeCast S1x8192 (multiReduction .add [0] S8192
      (mulf (shapeCast S256x8192 x shapeCasts_S1x256x8192_S256x8192) (shapeCast S256x8192 x shapeCasts_S1x256x8192_S256x8192)) 0x00000000#32
      reduces_S256x8192_S8192 (.inl rfl) rfl : FVec F S8192 .f32) shapeCasts_S8192_S1x8192 : FVec F S1x8192 .f32))
      (broadcast S1x8192 (Scalar.ofBits .f32 0x2B8CBCCC#32))) broadcasts_S1x8192_S256x8192)
def nrmB (x : FVec F S1x256x8192 .f32) : FVec F S1x256x8192 .f32 := shapeCast S1x256x8192 (nrm x) shapeCasts_S256x8192_S1x256x8192
/-- and their squared lengths. -/
def sqB (x : FVec F S1x256x8192 .f32) : FVec F S1x1x8192 .f32 :=
  shapeCast S1x1x8192 (shapeCast S1x8192 (multiReduction .add [0] S8192 (mulf (nrm x) (nrm x)) 0x00000000#32
      reduces_S256x8192_S8192 (.inl rfl) rfl : FVec F S8192 .f32) shapeCasts_S8192_S1x8192 : FVec F S1x8192 .f32) shapeCasts_S1x8192_S1x1x8192

/-- One run of the norm kernel's body. -/
theorem normRun (i : grid0.Coords) (c : Dev nD) (M1 : Memref sig .tc .vmem S1x256x8192 .f32) (h1 : M1.IsWhole) (M2 : Memref sig .tc .vmem S1x256x8192 .f32) (h2 : M2.IsWhole)
    (M3 : Memref sig .tc .vmem S1x1x8192 .f32) (h3 : M3.IsWhole)
    (f1 : Bf (F := F) c M1) (f2 : Bf (F := F) c M2) (f3 : Bf (F := F) c M3) (Q : PUnit → sProp 𝕄) :
    iprop(pt c M1 f1 ∗ pt c M2 f2 ∗ pt c M3 f3
      ∗ (iprop(pt c M1 f1 ∗ (∃ f, ⌜M2.view.read (Elt F) f = nrmB (M1.view.read (Elt F) f1)⌝ ∗ pt c M2 f)
          ∗ ∃ f, ⌜M3.view.read (Elt F) f = sqB (M1.view.read (Elt F) f1)⌝ ∗ pt c M3 f) -∗ Q ⟨⟩))
    ⊢ wp frame (wpE (defs₀ (F := F)) Variants.none c none) Set.univ
        (cc0__norm_body i M1 h1 M2 h2 M3 h3) Q := by
  unfold cc0__norm_body
  iintro ⟨H1, H2, H3, Hk⟩
  sl_exec!
  sl_step
  have e1 := View.readAt_full M1.view f1 (off := ![0, 0, 0]) inb_S1x256x8192_S1x256x8192_0_0_0
  iapply Hk
  isplitl [H1]; · iexact H1
  isplitl [H2]
  · iexists _
    isplitr
    swap
    · iexact H2
    ipureintro
    rw [← e1]
    exact read_store_full M2.view _ (off := ![0, 0, 0]) inb_S1x256x8192_S1x256x8192_0_0_0 (nrmB _)
  · iexists _
    isplitr
    swap
    · iexact H3
    ipureintro
    rw [← e1]
    exact read_store_full M3.view _ (off := ![0, 0, 0]) inb_S1x1x8192_S1x1x8192_0_0_0 (sqB _)

end Cert.Proof.KernelIdeal

end
-- ==== Proof.RegI.lean ====
/-
  The two pipelines: what each holds at each point, the bodies' obligations, and the run of the whole program.
-/
module

public import proofs.«01_k».proof.Proof.RunI
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg afterRegion arrRef)

variable {F : FTy → Type} [FloatOps F]

local notation "𝕄" => MT nD τ sig Unit (Elt F) ℕ (UU nD τ) ℕ

/-- A whole memref owned at what it reads is its buffer held at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

section Dats

variable (V : Dev nD → Valuation τ sig (Elt F))

/-- The block of window `w` of the norm kernel at point `t`. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (arrRef spec0 w))

/-- What the norm kernel's pipeline holds: the input's block as fetched, the two results as the body leaves them. -/
def dat0 (c : Dev nD) : Dat τ (Elt F) Unit ℕ (UU nD τ) ℕ cfg0 c where
  A w := V c (arrRef spec0 w)
  after w t := match w with
    | ⟨0, _⟩ => blk0 V c 0 t
    | ⟨1, _⟩ => nrmB (blk0 V c 0 t)
    | ⟨2, _⟩ => sqB (blk0 V c 0 t)
  Φ _ := Pipeline.scopedRest (Ix := Unit) (Name := ℕ) (U := UU nD τ) (Lvl := ℕ) (Val := Elt F) spec0 c
  q _ := fullShare
  owed _ := 0

theorem before0_0 (c : Dev nD) (t : Fin cfg0.N) (d) : (dat0 V c).before 0 t d = blk0 V c 0 t :=
  (dat0 V c).before_fetched 0 t (fetch0_0 t) d

theorem body0 (c : Dev nD) : BodyObligation (dat0 V c) (defs₀ (F := F)) Variants.none () Set.univ := fun t => by
  rw [bigSep_W0, bigSep_W0]
  show iprop(Pipeline.scopedRest (Ix := Unit) (Name := ℕ) (U := UU nD τ) (Lvl := ℕ) (Val := Elt F) spec0 c ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop(Pipeline.scopedRest (Ix := Unit) (Name := ℕ) (U := UU nD τ) (Lvl := ℕ) (Val := Elt F) spec0 c ∗ (dat0 V c).owesAt () t.succ
      ∗ owns (c : Thread nD τ) (st0_0 t) fullShare (blk0 V c 0 t)
      ∗ owns (c : Thread nD τ) (st0_1 t) fullShare (nrmB (blk0 V c 0 t))
      ∗ owns (c : Thread nD τ) (st0_2 t) fullShare (sqB (blk0 V c 0 t)))
  have w0 : (st0_0 t).IsWhole := hstage0_0 ((cfg0.slots t 0).cast nbuf0_0)
  have w1 : (st0_1 t).IsWhole := hstage0_1 ((cfg0.slots t 1).cast nbuf0_1)
  have w2 : (st0_2 t).IsWhole := hstage0_2 ((cfg0.slots t 2).cast nbuf0_2)
  simp only [before0_0, owns_pt c (st0_0 t) w0, owns_pt c (st0_1 t) w1, owns_pt c (st0_2 t) w2]
  iintro ⟨HΦ, HO, ⟨%d0, H0⟩, ⟨%d1, H1⟩, ⟨%d2, H2⟩⟩
  icases H0 with ⟨%f0, %hf0, H0⟩
  icases H1 with ⟨%f1, -, H1⟩
  icases H2 with ⟨%f2, -, H2⟩
  have run := normRun (grid0.coords t) c (st0_0 t) w0 (st0_1 t) w1 (st0_2 t) w2 f0 f1 f2
  rw [hf0] at run
  iapply (run _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists f0
    isplitr; · ipureintro; exact hf0
    iexact H0
  isplitl [H1]; · iexact H1
  iexact H2

/-- The block of window `w` of the selection kernel at point `t`. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (arrRef spec1 w))

/-- What the selection kernel's pipeline holds: the inputs' blocks as fetched, the result as the body leaves it. -/
def dat1 (c : Dev nD) : Dat τ (Elt F) Unit ℕ (UU nD τ) ℕ cfg1 c where
  A w := V c (arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outFn (dist (blk1 V c 0 t) (blk1 V c 1 t) (blk1 V c 2 t) (blk1 V c 3 t))
  Φ _ := Pipeline.scopedRest (Ix := Unit) (Name := ℕ) (U := UU nD τ) (Lvl := ℕ) (Val := Elt F) spec1 c
  q _ := fullShare
  owed _ := 0

theorem before1_0 (c : Dev nD) (t : Fin cfg1.N) (d) : (dat1 V c).before 0 t d = blk1 V c 0 t :=
  (dat1 V c).before_in_eq_fetched 0 rfl (fun _ => rfl) (fun _ _ _ => rfl) (fun _ => rfl) t d
theorem before1_1 (c : Dev nD) (t : Fin cfg1.N) (d) : (dat1 V c).before 1 t d = blk1 V c 1 t :=
  (dat1 V c).before_in_eq_fetched 1 rfl (fun _ => rfl) (fun _ _ _ => rfl) (fun _ => rfl) t d
theorem before1_2 (c : Dev nD) (t : Fin cfg1.N) (d) : (dat1 V c).before 2 t d = blk1 V c 2 t :=
  (dat1 V c).before_in_eq_fetched 2 rfl (fun _ => rfl) (fun _ _ _ => rfl) (fun _ => rfl) t d
theorem before1_3 (c : Dev nD) (t : Fin cfg1.N) (d) : (dat1 V c).before 3 t d = blk1 V c 3 t :=
  (dat1 V c).before_in_eq_fetched 3 rfl (fun _ => rfl) (fun _ _ _ => rfl) (fun _ => rfl) t d

theorem body1 (c : Dev nD) : BodyObligation (dat1 V c) (defs₀ (F := F)) Variants.none () Set.univ := fun t => by
  rw [bigSep_W1, bigSep_W1]
  show iprop(Pipeline.scopedRest (Ix := Unit) (Name := ℕ) (U := UU nD τ) (Lvl := ℕ) (Val := Elt F) spec1 c ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) fun _ =>
      iprop(Pipeline.scopedRest (Ix := Unit) (Name := ℕ) (U := UU nD τ) (Lvl := ℕ) (Val := Elt F) spec1 c ∗ (dat1 V c).owesAt () t.succ
      ∗ owns (c : Thread nD τ) (st1_0 t) fullShare (blk1 V c 0 t)
      ∗ owns (c : Thread nD τ) (st1_1 t) fullShare (blk1 V c 1 t)
      ∗ owns (c : Thread nD τ) (st1_2 t) fullShare (blk1 V c 2 t)
      ∗ owns (c : Thread nD τ) (st1_3 t) fullShare (blk1 V c 3 t)
      ∗ owns (c : Thread nD τ) (st1_4 t) fullShare (outFn (dist (blk1 V c 0 t) (blk1 V c 1 t) (blk1 V c 2 t) (blk1 V c 3 t))))
  have w0 : (st1_0 t).IsWhole := hstage1_0 ((cfg1.slots t 0).cast nbuf1_0)
  have w1 : (st1_1 t).IsWhole := hstage1_1 ((cfg1.slots t 1).cast nbuf1_1)
  have w2 : (st1_2 t).IsWhole := hstage1_2 ((cfg1.slots t 2).cast nbuf1_2)
  have w3 : (st1_3 t).IsWhole := hstage1_3 ((cfg1.slots t 3).cast nbuf1_3)
  have w4 : (st1_4 t).IsWhole := hstage1_4 ((cfg1.slots t 4).cast nbuf1_4)
  rw [show bodyAt1 (F := F) t = compact (st1_0 t) (st1_1 t) (st1_2 t) (st1_3 t) (st1_4 t) from body_eq _ _ _ _ _ _ _ _ _ _ _]
  simp only [before1_0, before1_1, before1_2, before1_3, owns_pt c (st1_0 t) w0, owns_pt c (st1_1 t) w1, owns_pt c (st1_2 t) w2, owns_pt c (st1_3 t) w3, owns_pt c (st1_4 t) w4]
  iintro ⟨HΦ, HO, ⟨%d0, H0⟩, ⟨%d1, H1⟩, ⟨%d2, H2⟩, ⟨%d3, H3⟩, ⟨%d4, H4⟩⟩
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  have run := topkRun c (st1_0 t) w0 (st1_1 t) w1 (st1_2 t) w2 (st1_3 t) w3 (st1_4 t) w4 f0 f1 f2 f3 f4
  rw [hf0, hf1, hf2, hf3] at run
  iapply (run _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists f0
    isplitr; · ipureintro; exact hf0
    iexact H0
  isplitl [H1]
  · iexists f1
    isplitr; · ipureintro; exact hf1
    iexact H1
  isplitl [H2]
  · iexists f2
    isplitr; · ipureintro; exact hf2
    iexact H2
  isplitl [H3]
  · iexists f3
    isplitr; · ipureintro; exact hf3
    iexact H3
  iexact H4

end Dats

/-! ## The whole run -/

/-- Every wait's index is assigned at every cell of a TensorCore, at the one level. -/
abbrev L : GSem nD τ sig → Finset Unit := fun g => if g.1.2 = .tc then {()} else ∅
abbrev lv : GSem nD τ sig → Unit → ℕ := fun _ _ => 0
/-- What rides beside the buffers: the core owes nothing. -/
abbrev E : Fin 3 → Dev nD → sProp 𝕄 := fun _ c => iprop(∃ W, owes (c : Thread nD τ) (0 : CellTallies nD τ sig Unit) W)
/-- The pipelines' algebra is the left component. -/
abbrev EP : Emb (UR sig nD τ) (MT nD τ sig Unit (Elt F) ℕ (UU nD τ) ℕ) := embL

/-- The launch element: the pipelines' cells and transfers. -/
def u₀ : UU nD τ := (initOf (Pipeline.cells cfgs cellOf_inj) (Pipeline.launchToks cfgs cellOf_inj), 1)

variable (m : (ℓ : Loc nD τ sig) → Buf (Elt F) ℓ)

/-- What the norm kernel leaves, -/
def outsA : Outs (F := F) := fun _ r c => afterRegion (dat0 (V1 m) c) (V1 m c) (Proc.devRef .tc r)
/-- and the selection kernel after it. -/
def outs : Outs (F := F) := fun J r c => match J with
  | 2 => outsA m 2 r c
  | _ => afterRegion (dat1 (V3 m (outsA m)) c) (V3 m (outsA m) c) (Proc.devRef .tc r)

/-- The two pipelines' data. -/
def pdats : (p : Fin 2) → (c : Dev nD) → Dat τ (Elt F) Unit ℕ (UU nD τ) ℕ (cfgs p) c := fun p => match p with
  | ⟨0, _⟩ => dat0 (V1 m)
  | ⟨1, _⟩ => dat1 (V3 m (outs m))

theorem cut (p : Fin 2) : Pipeline.LevelCut (pcfgs (F := F)) adm () L lv p (fun _ => (0 : CellTallies nD τ sig Unit)) (fun _ => 0) where
  hι _ _ _ := Finset.mem_singleton_self _
  hιb _ _ _ := Nat.le_refl _
  hD _ _ _ h := absurd h (Nat.lt_irrefl _)

theorem hin0 (c : Dev nD) : iprop(Pipeline.scopedRest (Ix := Unit) (Name := ℕ) (U := UU nD τ) (Lvl := ℕ) (Val := Elt F) spec0 c ∗ emp) ⊢ (pdats m 0 c).Φ 0 := by
  rw [show (pdats m 0 c).Φ 0 = Pipeline.scopedRest (Ix := Unit) (Name := ℕ) (U := UU nD τ) (Lvl := ℕ) (Val := Elt F) spec0 c from rfl]
  iintro ⟨H, -⟩
  iexact H
theorem hout0 (c : Dev nD) : (pdats m 0 c).Φ (Fin.last cfg0.N) ⊢ iprop(Pipeline.scopedRest (Ix := Unit) (Name := ℕ) (U := UU nD τ) (Lvl := ℕ) (Val := Elt F) spec0 c ∗ emp) := by
  rw [show (pdats m 0 c).Φ (Fin.last cfg0.N) = Pipeline.scopedRest (Ix := Unit) (Name := ℕ) (U := UU nD τ) (Lvl := ℕ) (Val := Elt F) spec0 c from rfl]
  iintro H
  isplitl [H]; · iexact H
  iempintro

set_option backward.isDefEq.respectTransparency.types false in
/-- Region 0. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (body0 (V1 m) c).loose) (fun _ _ => rfl) (fun _ => rfl)
    (fun c => (dat0 (V1 m) c).share_full fun _ => rfl) (fun c => hin0 m c) (fun c => hout0 m c) (fun _ => 0) (cut 0) (fun _ => iprop(emp)) (V1 m) (fun _ _ => rfl)

theorem hin1 (c : Dev nD) : iprop(Pipeline.scopedRest (Ix := Unit) (Name := ℕ) (U := UU nD τ) (Lvl := ℕ) (Val := Elt F) spec1 c ∗ emp) ⊢ (pdats m 1 c).Φ 0 := by
  rw [show (pdats m 1 c).Φ 0 = Pipeline.scopedRest (Ix := Unit) (Name := ℕ) (U := UU nD τ) (Lvl := ℕ) (Val := Elt F) spec1 c from rfl]
  iintro ⟨H, -⟩
  iexact H
theorem hout1 (c : Dev nD) : (pdats m 1 c).Φ (Fin.last cfg1.N) ⊢ iprop(Pipeline.scopedRest (Ix := Unit) (Name := ℕ) (U := UU nD τ) (Lvl := ℕ) (Val := Elt F) spec1 c ∗ emp) := by
  rw [show (pdats m 1 c).Φ (Fin.last cfg1.N) = Pipeline.scopedRest (Ix := Unit) (Name := ℕ) (U := UU nD τ) (Lvl := ℕ) (Val := Elt F) spec1 c from rfl]
  iintro H
  isplitl [H]; · iexact H
  iempintro

set_option backward.isDefEq.respectTransparency.types false in
/-- Region 1. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (body1 (V3 m (outs m)) c).loose) (fun _ _ => rfl) (fun _ => rfl)
    (fun c => (dat1 (V3 m (outs m)) c).share_full fun _ => rfl) (fun c => hin1 m c) (fun c => hout1 m c) (fun _ => 0) (cut 1) (fun _ => iprop(emp)) (V3 m (outs m)) (fun _ _ => rfl)

/-- What region 0 leaves, as the chain of contents states it. -/
theorem left0 (c : Dev nD) : ∀ b ∈ Pipeline.ucRefs τ sig, afterRegion (dat0 (V1 m) c) (V1 m c) b = V2 m (outs m) c b := by
  intro b hb
  obtain ⟨r, rfl⟩ : ∃ r : Ref sig .tc, b = Proc.devRef .tc r := by
    obtain ⟨r, -, h⟩ := Finset.mem_map.mp (Finset.mem_filter.mp hb).1
    exact ⟨r, h.symm⟩
  by_cases h1 : r = main_call0_v1_1
  · subst h1
    refine Eq.symm ?_
    dsimp only [V2]
    rw [Function.update_self]
    rfl
  by_cases h0 : r = main_call0_v1_0
  · subst h0
    refine Eq.symm ?_
    dsimp only [V2]
    rw [Function.update_of_ne (StableHlo.devRef_ne_of_ne h1), Function.update_self]
    rfl
  · refine (Pipeline.afterRegion_keeps (dat0 (V1 m) c) (V1 m c) launch0.win.arr_inj (fun _ => rfl) r ?_).trans
      (V2_of m (outs m) c r (by simp [h0, h1])).symm
    intro w hw
    match w with
    | ⟨0, _⟩ => rfl
    | ⟨1, _⟩ => exact absurd hw.symm h0
    | ⟨2, _⟩ => exact absurd hw.symm h1

/-- What region 1 leaves. -/
theorem left1 (c : Dev nD) : ∀ b ∈ Pipeline.ucRefs τ sig, afterRegion (dat1 (V3 m (outs m)) c) (V3 m (outs m) c) b = V4 m (outs m) c b := by
  intro b hb
  obtain ⟨r, rfl⟩ : ∃ r : Ref sig .tc, b = Proc.devRef .tc r := by
    obtain ⟨r, -, h⟩ := Finset.mem_map.mp (Finset.mem_filter.mp hb).1
    exact ⟨r, h.symm⟩
  by_cases h0 : r = main_call0_v6
  · subst h0
    refine Eq.symm ?_
    dsimp only [V4]
    rw [Function.update_self]
    rfl
  · refine (Pipeline.afterRegion_keeps (dat1 (V3 m (outs m)) c) (V3 m (outs m) c) launch1.win.arr_inj (fun _ => rfl) r ?_).trans
      (V4_of m (outs m) c r (by simp [h0])).symm
    intro w hw
    match w with
    | ⟨0, _⟩ => rfl
    | ⟨1, _⟩ => rfl
    | ⟨2, _⟩ => rfl
    | ⟨3, _⟩ => rfl
    | ⟨4, _⟩ => exact absurd hw.symm h0

theorem sub0 : Pipeline.arrRefs (τ := τ) (pcfgs (F := F) 0).spec ⊆ Pipeline.ucRefs τ sig :=
  Pipeline.arrRefs_sub_ucRefs (pcfgs (F := F) 0).spec (show ∀ w : Fin (cfg0.W), (arrRef spec0 w).isScoped = false by decide)

set_option backward.isDefEq.respectTransparency.types false in
theorem pre0 (c : Dev nD) : iprop(StableHlo.held (c : Thread nD τ) (Pipeline.ucRefs τ sig) (V1 m c) ∗ E 0 c) ⊢ (R0 (F := F) m).pre c := by
  unfold R0
  refine BIBase.Entails.trans ?_ (RegionSeg.ofHeldIn_pre (sub0 (F := F)) c)
  iintro ⟨H, HO⟩
  isplitl [H]; · iexact H
  isplitl [HO]; · iexact HO
  isplitl <;> iempintro

set_option backward.isDefEq.respectTransparency.types false in
theorem post0 (c : Dev nD) : (R0 (F := F) m).post c ⊢ iprop(StableHlo.held (c : Thread nD τ) (Pipeline.ucRefs τ sig) (V2 m (outs m) c) ∗ E 1 c) := by
  unfold R0
  refine BIBase.Entails.trans (RegionSeg.ofHeldIn_post (sub0 (F := F)) c) ?_
  rw [← StableHlo.held_congr (c : Thread nD τ) (left0 m c)]
  iintro ⟨H, HO, -⟩
  isplitl [H]; · iexact H
  iexact HO

theorem sub1 : Pipeline.arrRefs (τ := τ) (pcfgs (F := F) 1).spec ⊆ Pipeline.ucRefs τ sig :=
  Pipeline.arrRefs_sub_ucRefs (pcfgs (F := F) 1).spec (show ∀ w : Fin (cfg1.W), (arrRef spec1 w).isScoped = false by decide)

set_option backward.isDefEq.respectTransparency.types false in
theorem pre1 (c : Dev nD) : iprop(StableHlo.held (c : Thread nD τ) (Pipeline.ucRefs τ sig) (V3 m (outs m) c) ∗ E 1 c) ⊢ (R1 (F := F) m).pre c := by
  unfold R1
  refine BIBase.Entails.trans ?_ (RegionSeg.ofHeldIn_pre (sub1 (F := F)) c)
  iintro ⟨H, HO⟩
  isplitl [H]; · iexact H
  isplitl [HO]; · iexact HO
  isplitl <;> iempintro

set_option backward.isDefEq.respectTransparency.types false in
theorem post1 (c : Dev nD) : (R1 (F := F) m).post c ⊢ iprop(StableHlo.held (c : Thread nD τ) (Pipeline.ucRefs τ sig) (V4 m (outs m) c) ∗ E 2 c) := by
  unfold R1
  refine BIBase.Entails.trans (RegionSeg.ofHeldIn_post (sub1 (F := F)) c) ?_
  rw [← StableHlo.held_congr (c : Thread nD τ) (left1 m c)]
  iintro ⟨H, HO, -⟩
  isplitl [H]; · iexact H
  iexact HO

end Cert.Proof.KernelIdeal

end
-- ==== Proof.MainI.lean ====
/-
  The run of the whole program: it ends, its argument as launched, its result as the last valuation has it, and every
  semaphore counter at zero.
-/
module

public import proofs.«01_k».proof.Proof.RegI

@[expose] public section

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ) (ρ : Dev nD → PrngReg)

/-- The launch element splits into the pipelines' share and nothing. -/
theorem launchU : (ownU u₀ : sProp 𝕄) ⊢ |={Set.univ}=> iprop(BI.own ((EP (F := F)) (initOf (Pipeline.cells cfgs cellOf_inj) (Pipeline.launchToks cfgs cellOf_inj)))
    ∗ bigSep Finset.univ (fun _ : Dev nD => (iprop(emp) : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

-- the launch theorem's implicit arguments are found by unifying its conclusion with this one
set_option backward.isDefEq.respectTransparency.types false in
theorem run_main : θ_run defs (onTc (τ := τ) (main (F := F))) ⟨m, fun _ => 0, ρ⟩ (fun r => (∀ c : Dev nD,
      r.2.mem ((c.tc : Thread nD τ).loc main_v0) = V5 m (outs m) c main_v0
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj EP defs₀ Variants.none L lv m ρ main
    (segs m (outs m) Variants.none L lv E () (pdats m) (R0 m) (R1 m))
    (fun c Q => by
      rewrite [main_chain c, Pipeline.Seg.run_eq_chain,
        show (segs m (outs m) Variants.none L lv E () (pdats m) (R0 m) (R1 m) c).map Pipeline.Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Pipeline.Seg.pipes_host, Pipeline.Seg.pipes_region, Pipeline.Seg.pipes_nil]; decide)
    0 (fun g h => if_neg h) (fun _ => iprop(emp)) u₀ launchU
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_)
    (QY := fun c s => s.mem ((c.tc : Thread nD τ).loc main_v0) = V5 m (outs m) c main_v0
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UU nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (V5_main_arg0 m (outs m) c)⟩
    · iexact HSI

end Cert.Proof.KernelIdeal

end
-- ==== Proof.Num.lean ====
/-
  The squared distances in plain sums over the extended reals, and a bound on them.

  A column's entries divided by its length are at most one in size, whatever the input: a column with an infinite entry
  has infinite length and every quotient by it is zero. So every squared distance is far below the sentinel.
-/
module

public import Idealize.ShloMosaic.Lib.IdealHost
public import Idealize.ShloMosaic.Lib.Pointwise.Index
public import Idealize.ShloMosaic.PureOps.Ideal.Laws

@[expose] public section

noncomputable section

namespace Cert.Proof.Num

open Idealize.ShloMosaic

/-- The input. -/
abbrev X := (⟨4, ![2, 256, 8192, 1]⟩ : Shape).Idx → EReal

/-- A column's entry over the column's length. -/
def nv (x : X) (b : Fin 2) (c : Fin 256) (n : Fin 8192) : EReal :=
  Ideal.div (x (ix4 b c n 0)) (max (Ideal.sqrt (∑ c : Fin 256, x (ix4 b c n 0) * x (ix4 b c n 0))) (Ideal.ofBits .f32 0x2B8CBCCC#32))
/-- The squared length of what is left. -/
def sq (x : X) (b : Fin 2) (n : Fin 8192) : EReal := ∑ c : Fin 256, nv x b c n * nv x b c n
/-- The squared distance of two columns. -/
def dd (x : X) (b : Fin 2) (i k : Fin 8192) : EReal :=
  sq x b i + Ideal.ofBits .f32 0xC0000000#32 * (∑ c : Fin 256, nv x b c i * nv x b c k) + sq x b k

theorem coe_sum {n : ℕ} (f : Fin n → ℝ) : ((∑ c, f c : ℝ) : EReal) = ∑ c, (f c : EReal) := by
  induction (Finset.univ : Finset (Fin n)) using Finset.induction_on with
  | empty => simp
  | insert a s h ih => rw [Finset.sum_insert h, Finset.sum_insert h, EReal.coe_add, ih]

theorem sq_nonneg' (y : EReal) : 0 ≤ y * y := by
  induction y using EReal.rec with
  | bot => simp
  | top => simp
  | coe r => rw [← EReal.coe_mul]; exact EReal.coe_nonneg.mpr (mul_self_nonneg r)

theorem ratio {n : ℕ} (y : Fin n → EReal) (e : ℝ) (he : 0 < e) (c : Fin n) :
    ∃ v : ℝ, |v| ≤ 1 ∧ Ideal.div (y c) (max (Ideal.sqrt (∑ c, y c * y c)) e) = v := by
  by_cases h : ∀ c, ∃ r : ℝ, y c = r
  · choose r hr using h
    have hs : ∑ c, y c * y c = ((∑ c, r c * r c : ℝ) : EReal) := by
      rw [coe_sum]; exact Finset.sum_congr rfl fun c _ => by rw [hr, EReal.coe_mul]
    have hn : 0 ≤ ∑ c, r c * r c := Finset.sum_nonneg fun c _ => mul_self_nonneg _
    rw [hs, Ideal.sqrt_coe, if_neg (not_lt.mpr hn), ← EReal.coe_strictMono.monotone.map_max, hr]
    set m := max (Real.sqrt (∑ c, r c * r c)) e with hm
    have mp : 0 < m := lt_of_lt_of_le he (le_max_right _ _)
    have hle : |r c| ≤ m := by
      refine le_trans ?_ (le_max_left _ _)
      rw [← Real.sqrt_mul_self_eq_abs]
      exact Real.sqrt_le_sqrt (Finset.single_le_sum (f := fun c => r c * r c) (fun c _ => mul_self_nonneg _) (Finset.mem_univ c))
    refine ⟨r c / m, ?_, ?_⟩
    · rw [abs_div, abs_of_pos mp]; exact (div_le_one mp).mpr hle
    · unfold Ideal.div
      rw [if_neg (by rw [← EReal.coe_zero, EReal.coe_eq_coe_iff]; exact mp.ne'), ← EReal.coe_inv, ← EReal.coe_mul, div_eq_mul_inv]
  · obtain ⟨a, ha⟩ := not_forall.mp h
    have hy : y a * y a = ⊤ := by
      revert ha
      induction y a using EReal.rec with
      | bot => intro _; simp
      | top => intro _; simp
      | coe r => intro h; exact absurd ⟨r, rfl⟩ h
    have hs : ∑ c, y c * y c = ⊤ := by
      refine top_le_iff.mp ?_
      rw [← hy]
      exact Finset.single_le_sum (f := fun c => y c * y c) (fun c _ => sq_nonneg' _) (Finset.mem_univ a)
    refine ⟨0, by simp, ?_⟩
    rw [hs, Ideal.sqrt_top, max_eq_left le_top]
    unfold Ideal.div
    rw [if_neg EReal.top_ne_zero, EReal.inv_top, mul_zero, EReal.coe_zero]

theorem eps_pos : ∃ e : ℝ, 0 < e ∧ Ideal.ofBits .f32 0x2B8CBCCC#32 = e := by
  refine ⟨_, ?_, by simp [Ideal.ofBits, Ideal.ieee, -EReal.coe_mul]; rfl⟩
  positivity

theorem neg_two : Ideal.ofBits .f32 0xC0000000#32 = ((-2 : ℝ) : EReal) := by
  simp [Ideal.ofBits, Ideal.ieee, -EReal.coe_mul, -EReal.coe_neg]; norm_num

theorem pos_large : ∃ p : ℝ, 1025 ≤ p ∧ Ideal.ofBits .f32 0x7149F2CA#32 = p := by
  refine ⟨_, ?_, by simp [Ideal.ofBits, Ideal.ieee, -EReal.coe_mul]; rfl⟩
  norm_num

theorem nv_real (x : X) (b : Fin 2) (c : Fin 256) (n : Fin 8192) : ∃ v : ℝ, |v| ≤ 1 ∧ nv x b c n = v := by
  obtain ⟨e, he, h⟩ := eps_pos
  unfold nv
  rw [h]
  exact ratio (fun c => x (ix4 b c n 0)) e he c

theorem dd_lt (x : X) (b : Fin 2) (i k : Fin 8192) : dd x b i k < Ideal.ofBits .f32 0x7149F2CA#32 := by
  choose v hv hx using fun c n => nv_real x b c n
  obtain ⟨p, hp, h⟩ := pos_large
  have dot : ∀ i k, ∑ c : Fin 256, nv x b c i * nv x b c k = ((∑ c, v c i * v c k : ℝ) : EReal) := fun i k => by
    rw [coe_sum]; exact Finset.sum_congr rfl fun c _ => by rw [hx, hx, EReal.coe_mul]
  have bd : ∀ i k, |∑ c, v c i * v c k| ≤ 256 := fun i k => by
    refine (Finset.abs_sum_le_sum_abs _ _).trans ?_
    refine (Finset.sum_le_card_nsmul _ _ 1 fun c _ => ?_).trans (by simp)
    rw [abs_mul]; exact mul_le_one₀ (hv _ _) (abs_nonneg _) (hv _ _)
  unfold dd sq
  rw [h, neg_two, dot, dot, dot, ← EReal.coe_mul, ← EReal.coe_add, ← EReal.coe_add, EReal.coe_lt_coe_iff]
  have := abs_le.mp (bd i i)
  have := abs_le.mp (bd i k)
  have := abs_le.mp (bd k k)
  linarith

end Cert.Proof.Num

end
-- ==== Proof.NormI.lean ====
/-
  The first kernel's two arrays over the extended reals: the quotients and their squared lengths.
-/
module

public import proofs.«01_k».proof.Proof.RegI
public import proofs.«01_k».proof.Proof.Num
public import Idealize.ShloMosaic.Lib.Pointwise.Tactic
public import Idealize.ShloMosaic.Lib.Pointwise
public import Idealize.ShloMosaic.Lib.Pipeline.ValueKit.Geometry

@[expose] public section

noncomputable section

namespace Cert.Proof.KernelIdeal

open Cert.KernelIdeal Cert.KernelIdeal.Gen
open Idealize.ShloMosaic Idealize.ShloMosaic.TcCoe Idealize.SL.Sem
open Idealize.ShloMosaic.Pipeline (Dat arrRef)
open Cert.Proof.Num

theorem nrm_apply (x : X) (b : Fin 2) (B : FVec Ideal S1x256x8192 .f32) (h : ∀ c n, B (ix3 0 c n) = x (ix4 b c n 0)) (c : Fin 256) (n : Fin 8192) :
    nrm B (ix2 c n) = nv x b c n := by
  unfold nrm nv
  pointwise [h]

theorem nrmB_apply (x : X) (b : Fin 2) (B : FVec Ideal S1x256x8192 .f32) (h : ∀ c n, B (ix3 0 c n) = x (ix4 b c n 0)) (c : Fin 256) (n : Fin 8192) :
    nrmB B (ix3 0 c n) = nv x b c n := by
  unfold nrmB
  pointwise [nrm_apply x b B h]

theorem sqB_apply (x : X) (b : Fin 2) (B : FVec Ideal S1x256x8192 .f32) (h : ∀ c n, B (ix3 0 c n) = x (ix4 b c n 0)) (n : Fin 8192) :
    sqB B (ix3 0 0 n) = Num.sq x b n := by
  unfold sqB Num.sq
  pointwise [nrm_apply x b B h]

end Cert.Proof.KernelIdeal

end
-- ==== Proof.ArrI.lean ====
/-
  The arrays of the first kernel after its run, over the extended reals.
-/
module

public import proofs.«01_k».proof.Proof.NormI

@[expose] public section

noncomputable section

namespace Cert.Proof.KernelIdeal

open Cert.KernelIdeal Cert.KernelIdeal.Gen
open Idealize.ShloMosaic Idealize.ShloMosaic.TcCoe Idealize.SL.Sem
open Idealize.ShloMosaic.Pipeline (Dat arrRef)
open Cert.Proof.Num

variable (V : Dev nD → Valuation τ sig (Elt Ideal))

/-- Each point of the first kernel is one batch, in all three windows. -/
theorem at0_0 : ∀ t : Fin cfg0.N, win0_0.index t = ![t.val, 0, 0] := (by decide +kernel : ∀ t : Fin grid0.N, win0_0.index t = ![t.val, 0, 0])
theorem at0_1 : ∀ t : Fin cfg0.N, win0_1.index t = ![t.val, 0, 0] := (by decide +kernel : ∀ t : Fin grid0.N, win0_1.index t = ![t.val, 0, 0])
theorem at0_2 : ∀ t : Fin cfg0.N, win0_2.index t = ![t.val, 0, 0] := (by decide +kernel : ∀ t : Fin grid0.N, win0_2.index t = ![t.val, 0, 0])

/-- The input's block at a point is that batch. -/
theorem blk0_apply (c : Dev nD) (x : X) (h : ∀ b k n, V c main_call0_v0 (ix3 b k n) = x (ix4 b k n 0)) (t : Fin cfg0.N) (b : Fin 2) (hb : b.val = t.val)
    (k : Fin 256) (n : Fin 8192) : blk0 V c 0 t (ix3 0 k n) = x (ix4 b k n 0) := by
  rw [← h]
  show V c main_call0_v0 ((win0_0.blk t).view.emb (ix3 0 k n)) = _
  refine congrArg (V c main_call0_v0) ?_
  blk_ext [at0_0, hb]

theorem arr0_1 (c : Dev nD) (x : X) (h : ∀ b k n, V c main_call0_v0 (ix3 b k n) = x (ix4 b k n 0)) :
    (dat0 V c).arrAt 1 cfg0.N = fun i : S2x256x8192.Idx => nv x (i 0) (i 1) (i 2) := by
  refine (dat0 V c).arrAt_eq_of_covers 1 _ (by decide +kernel) fun t hf y => ?_
  blk_simp
  have ht : t.val < 2 := t.isLt
  have e : (win0_1.blk t).view.emb y = ix3 (⟨t.val, ht⟩ : Fin 2) (y 1) (y 2) := by
    blk_ext [at0_1]
  rw [e]
  show (nrmB (F := Ideal) (blk0 V c 0 t) : S1x256x8192.Idx → EReal) y = nv x _ _ _
  have ey : y = ix3 (0 : Fin 1) (y 1) (y 2) := by
    blk_ext []
  rw [ey]
  exact nrmB_apply x ⟨t.val, ht⟩ _ (fun k n => blk0_apply V c x h t _ rfl k n) _ _

theorem arr0_2 (c : Dev nD) (x : X) (h : ∀ b k n, V c main_call0_v0 (ix3 b k n) = x (ix4 b k n 0)) :
    (dat0 V c).arrAt 2 cfg0.N = fun i : S2x1x8192.Idx => Num.sq x (i 0) (i 2) := by
  refine (dat0 V c).arrAt_eq_of_covers 2 _ (by decide +kernel) fun t hf y => ?_
  blk_simp
  have ht : t.val < 2 := t.isLt
  have e : (win0_2.blk t).view.emb y = ix3 (⟨t.val, ht⟩ : Fin 2) (0 : Fin 1) (y 2) := by
    blk_ext [at0_2]
  rw [e]
  show (sqB (F := Ideal) (blk0 V c 0 t) : S1x1x8192.Idx → EReal) y = Num.sq x _ _
  have ey : y = ix3 (0 : Fin 1) (0 : Fin 1) (y 2) := by
    blk_ext []
  rw [ey]
  exact sqB_apply x ⟨t.val, ht⟩ _ (fun k n => blk0_apply V c x h t _ rfl k n) _

end Cert.Proof.KernelIdeal

end
-- ==== Proof.Sel.lean ====
/-
  Selecting the least columns of a row, in plain numbers.

  `Top d N n f` says that `f 0, …, f (n-1)` are the `n` least of the columns `0 … N-1` by value `d`, ties going to the
  lower column, in order. There is only one such selection. Four ways to it are read here: a stable sort, rounds that
  overwrite each pick with a sentinel, one pass over a lane's slabs that skips what earlier passes took, and the merge of
  the lanes' four least.
-/
module

public import Idealize.ShloMosaic.Lib.SortFacts

@[expose] public section

namespace Cert.Proof.Sel

open Idealize.ShloMosaic

variable {α : Type} [LinearOrder α]

/-- Column `a` comes no later than column `b`. -/
def LE (d : ℕ → α) (a b : ℕ) : Prop := d a < d b ∨ (d a = d b ∧ a ≤ b)

instance (d : ℕ → α) (a b : ℕ) : Decidable (LE d a b) := inferInstanceAs (Decidable (_ ∨ _))

theorem LE.trans {d : ℕ → α} {a b c : ℕ} (h : LE d a b) (h' : LE d b c) : LE d a c := by
  rcases h with h | ⟨h, g⟩ <;> rcases h' with h' | ⟨h', g'⟩
  · exact .inl (h.trans h')
  · exact .inl (h' ▸ h)
  · exact .inl (h ▸ h')
  · exact .inr ⟨h.trans h', g.trans g'⟩

theorem LE.antisymm {d : ℕ → α} {a b : ℕ} (h : LE d a b) (h' : LE d b a) : a = b := by
  rcases h with h | ⟨h, g⟩ <;> rcases h' with h' | ⟨h', g'⟩
  · exact absurd (h.trans h') (lt_irrefl _)
  · exact absurd (h' ▸ h) (lt_irrefl _)
  · exact absurd (h ▸ h') (lt_irrefl _)
  · exact le_antisymm g g'

theorem LE.le {d : ℕ → α} {a b : ℕ} (h : LE d a b) : d a ≤ d b := by
  rcases h with h | ⟨h, _⟩
  · exact h.le
  · exact h.le

theorem LE.of_le {d : ℕ → α} {a b : ℕ} (h : d a ≤ d b) (h' : d a = d b → a ≤ b) : LE d a b :=
  (lt_or_eq_of_le h).imp id fun e => ⟨e, h' e⟩

/-- The `n` least of the first `N` columns, in order. -/
def Top (d : ℕ → α) (N n : ℕ) (f : ℕ → ℕ) : Prop :=
  ∀ j < n, f j < N ∧ (∀ i < j, f i ≠ f j) ∧ ∀ k < N, (∀ i < j, f i ≠ k) → LE d (f j) k

theorem Top.unique {d : ℕ → α} {N n : ℕ} {f g : ℕ → ℕ} (hf : Top d N n f) (hg : Top d N n g) : ∀ j < n, f j = g j := by
  intro j
  induction j using Nat.strong_induction_on with
  | _ j ih =>
    intro hj
    obtain ⟨f1, f2, f3⟩ := hf j hj
    obtain ⟨g1, g2, g3⟩ := hg j hj
    refine LE.antisymm (f3 _ g1 fun i hi => ?_) (g3 _ f1 fun i hi => ?_)
    · rw [ih i hi (hi.trans hj)]; exact g2 i hi
    · rw [← ih i hi (hi.trans hj)]; exact f2 i hi

theorem Top.mono {d : ℕ → α} {N n n' : ℕ} {f : ℕ → ℕ} (hf : Top d N n f) (h : n' ≤ n) : Top d N n' f :=
  fun j hj => hf j (hj.trans_le h)

/-! ## A stable sort -/

/-- On a list in increasing order, sorting stably by a key is sorting by the key and then the position. -/
theorem stableSort_lex {n : ℕ} (R R' : Fin n → Fin n → Bool) (h : ∀ a b : Fin n, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem top_sort (d : ℕ → α) (N : ℕ) (R : Fin N → Fin N → Bool) (hR : ∀ a b, R a b = decide (d a < d b)) (σ : ℕ → ℕ)
    (hσ : ∀ j : Fin N, σ j = (sortedFrom R j).val) : Top d N N σ := by
  let R' : Fin N → Fin N → Bool := fun a b => decide (¬ LE d b a)
  have hs : sortedFrom R = sortedFrom R' := by
    have e : sortPositions N R = sortPositions N R' := by
      refine stableSort_lex R R' (fun a b hab => ?_) _ (List.pairwise_lt_finRange N)
      rw [hR]
      refine decide_eq_decide.mpr ⟨fun h h' => absurd (h.trans_le h'.le) (lt_irrefl _), fun h => ?_⟩
      by_contra g
      exact h (.of_le (not_lt.mp g) fun _ => (Fin.lt_def.mp hab).le)
    funext k
    unfold sortedFrom
    rw [List.get_of_eq e]
    rfl
  have tot : ∀ a b, LE d a b ∨ LE d b a := fun a b => by
    rcases lt_trichotomy (d a) (d b) with h | h | h
    · exact .inl (.inl h)
    · rcases le_total a b with g | g
      · exact .inl (.inr ⟨h, g⟩)
      · exact .inr (.inr ⟨h.symm, g⟩)
    · exact .inr (.inl h)
  have ord : ∀ i j : Fin N, i < j → LE d (sortedFrom R' i) (sortedFrom R' j) := fun i j hij => by
    have := sortedFrom_noInversion R' R' (fun a b h => ?_) (fun _ _ h => h) (fun a b c h h' => ?_) i j hij
    · simpa [R'] using this
    · have h : ¬ LE d b a := by simpa [R'] using h
      have := (tot a b).resolve_right h
      simpa [R'] using this
    · have h : LE d b a := by simpa [R'] using h
      have h' : LE d c b := by simpa [R'] using h'
      have := h'.trans h
      simpa [R'] using this
  intro j hj
  rw [show σ j = _ from hσ ⟨j, hj⟩, hs]
  refine ⟨Fin.isLt _, fun i hi e => ?_, fun k hk hne => ?_⟩
  · rw [show σ i = _ from hσ ⟨i, hi.trans hj⟩, hs] at e
    have := sortedFrom_injective R' (Fin.ext e)
    exact absurd (congrArg Fin.val this) (by simpa using hi.ne)
  · obtain ⟨i, hi⟩ := sortedFrom_surjective R' ⟨k, hk⟩
    have hi' : (sortedFrom R' i).val = k := by rw [hi]
    rcases lt_trichotomy i ⟨j, hj⟩ with h | h | h
    · exact absurd (by rw [show σ i = _ from hσ i, hs]; exact hi') (hne i.val (Fin.lt_def.mp h))
    · rw [← hi', h]; exact .inr ⟨rfl, le_rfl⟩
    · rw [← hi']; exact ord _ _ h

/-! ## Rounds that overwrite each pick -/

theorem top_rounds (d : ℕ → α) (N n : ℕ) (hn : n ≤ N) (pos : α) (hpos : ∀ k < N, d k < pos) (x : ℕ → ℕ → α) (c : ℕ → ℕ)
    (h0 : ∀ k < N, x 0 k = d k) (hx : ∀ j < n, ∀ k < N, x (j + 1) k = if k = c j then pos else x j k)
    (hc : ∀ j < n, c j < N) (hmin : ∀ j < n, ∀ k < N, x j (c j) ≤ x j k)
    (hfst : ∀ j < n, ∀ k < N, x j k = x j (c j) → c j ≤ k) : Top d N n c := by
  have inv : ∀ j ≤ n, ∀ k < N, ((∃ i < j, c i = k) → x j k = pos) ∧ ((∀ i < j, c i ≠ k) → x j k = d k) := by
    intro j
    induction j with
    | zero => exact fun _ k hk => ⟨fun ⟨i, hi, _⟩ => absurd hi (Nat.not_lt_zero i), fun _ => h0 k hk⟩
    | succ j ih =>
      intro hj k hk
      obtain ⟨ia, ib⟩ := ih (by omega) k hk
      rw [hx j hj k hk]
      refine ⟨fun ⟨i, hi, e⟩ => ?_, fun h => ?_⟩
      · split
        · rfl
        · rename_i g
          refine ia ⟨i, ?_, e⟩
          rcases Nat.lt_succ_iff_lt_or_eq.mp hi with h | h
          · exact h
          · exact absurd (h ▸ e).symm g
      · rw [if_neg fun e => h j (Nat.lt_succ_self j) e.symm]
        exact ib fun i hi => h i (by omega)
  intro j hj
  have free : ∀ i < j, c i ≠ c j := by
    obtain ⟨k, hk, hk'⟩ : ∃ k ∈ Finset.range N, k ∉ (Finset.range j).image c := by
      refine Finset.exists_mem_notMem_of_card_lt_card ?_
      calc _ ≤ (Finset.range j).card := Finset.card_image_le
        _ < _ := by rw [Finset.card_range, Finset.card_range]; omega
    have hk := Finset.mem_range.mp hk
    have e := (inv j hj.le k hk).2 fun i hi e => hk' (Finset.mem_image.mpr ⟨i, Finset.mem_range.mpr hi, e⟩)
    intro i hi e'
    have e2 := (inv j hj.le (c j) (hc j hj)).1 ⟨i, hi, e'⟩
    have := hmin j hj k hk
    rw [e, e2] at this
    exact absurd (hpos k hk) (not_lt.mpr this)
  have ec := (inv j hj.le (c j) (hc j hj)).2 free
  refine ⟨hc j hj, free, fun k hk hne => ?_⟩
  have ek := (inv j hj.le k hk).2 hne
  exact .of_le (by rw [← ec, ← ek]; exact hmin j hj k hk) fun e => hfst j hj k hk (by rw [ek, ec, e])

/-! ## One lane's passes -/

/-- A pass after slab `a`: the running minimum and its slab. -/
def pass (e : ℕ → α) (pos : α) (P : List ℕ) : ℕ → α × ℕ
  | 0 => (if 0 ∈ P then pos else e 0, 0)
  | a + 1 => if e (a + 1) < (pass e pos P a).1 ∧ a + 1 ∉ P then (e (a + 1), a + 1) else pass e pos P a

theorem pass_inv (e : ℕ → α) (pos : α) (P : List ℕ) (a : ℕ) (hpos : ∀ b ≤ a, e b < pos) :
    ((∀ b ≤ a, b ∈ P) ∧ (pass e pos P a).1 = pos) ∨ ((pass e pos P a).2 ≤ a ∧ (pass e pos P a).2 ∉ P ∧
      (pass e pos P a).1 = e (pass e pos P a).2 ∧ ∀ b ≤ a, b ∉ P → LE e (pass e pos P a).2 b) := by
  induction a with
  | zero =>
    unfold pass
    by_cases h : 0 ∈ P
    · refine .inl ⟨fun b hb => ?_, if_pos h⟩
      rw [Nat.le_zero.mp hb]; exact h
    · refine .inr ⟨le_rfl, h, if_neg h, fun b hb _ => ?_⟩
      rw [Nat.le_zero.mp hb]; exact .inr ⟨rfl, le_rfl⟩
  | succ a ih =>
    have ih := ih fun b hb => hpos b (by omega)
    unfold pass
    split
    · rename_i h
      refine .inr ⟨le_rfl, h.2, rfl, fun b hb hP => ?_⟩
      obtain rfl | hb : b = a + 1 ∨ b ≤ a := by omega
      · exact .inr ⟨rfl, le_rfl⟩
      · rcases ih with ⟨ih, _⟩ | ⟨_, _, i3, i4⟩
        · exact absurd (ih b hb) hP
        · exact .inl ((i3 ▸ h.1).trans_le (i4 b hb hP).le)
    · rename_i h
      rcases ih with ⟨ih, i2⟩ | ⟨i1, i2, i3, i4⟩
      · refine .inl ⟨fun b hb => ?_, i2⟩
        obtain rfl | hb : b = a + 1 ∨ b ≤ a := by omega
        · by_contra g
          exact h ⟨i2.symm ▸ hpos _ le_rfl, g⟩
        · exact ih b hb
      · refine .inr ⟨by omega, i2, i3, fun b hb hP => ?_⟩
        obtain rfl | hb : b = a + 1 ∨ b ≤ a := by omega
        · exact .of_le (by rw [← i3]; exact not_lt.mp fun g => h ⟨g, hP⟩) fun _ => by omega
        · exact i4 b hb hP

/-- What a pass over all slabs takes, when earlier passes left some. -/
theorem pass_last (e : ℕ → α) (pos : α) (P : List ℕ) (a : ℕ) (hpos : ∀ b ≤ a, e b < pos) (hP : P.length ≤ a) :
    (pass e pos P a).2 ≤ a ∧ (pass e pos P a).2 ∉ P ∧
      (pass e pos P a).1 = e (pass e pos P a).2 ∧ ∀ b ≤ a, b ∉ P → LE e (pass e pos P a).2 b := by
  rcases pass_inv e pos P a hpos with ⟨h, _⟩ | h
  · obtain ⟨k, hk, hk'⟩ : ∃ k ∈ Finset.range (a + 1), k ∉ P.toFinset := by
      refine Finset.exists_mem_notMem_of_card_lt_card ?_
      calc _ ≤ P.length := P.toFinset_card_le
        _ < _ := by rw [Finset.card_range]; omega
    exact absurd (List.mem_toFinset.mpr (h k (by have := Finset.mem_range.mp hk; omega))) hk'
  · exact h

/-- The slabs the first four passes take. -/
def f0 (e : ℕ → α) (pos : α) (a : ℕ) : ℕ := (pass e pos [] a).2
def f1 (e : ℕ → α) (pos : α) (a : ℕ) : ℕ := (pass e pos [f0 e pos a] a).2
def f2 (e : ℕ → α) (pos : α) (a : ℕ) : ℕ := (pass e pos [f0 e pos a, f1 e pos a] a).2
def f3 (e : ℕ → α) (pos : α) (a : ℕ) : ℕ := (pass e pos [f0 e pos a, f1 e pos a, f2 e pos a] a).2
def four (e : ℕ → α) (pos : α) (a : ℕ) : ℕ → ℕ
  | 0 => f0 e pos a
  | 1 => f1 e pos a
  | 2 => f2 e pos a
  | _ => f3 e pos a

theorem top_four (e : ℕ → α) (pos : α) (a : ℕ) (hpos : ∀ b ≤ a, e b < pos) (ha : 3 ≤ a) : Top e (a + 1) 4 (four e pos a) := by
  have key : ∀ (j : ℕ) (P : List ℕ), P.length ≤ a → four e pos a j = (pass e pos P a).2 → (∀ k, k ∈ P ↔ ∃ i < j, four e pos a i = k) →
      four e pos a j < a + 1 ∧ (∀ i < j, four e pos a i ≠ four e pos a j) ∧
        ∀ k < a + 1, (∀ i < j, four e pos a i ≠ k) → LE e (four e pos a j) k := by
    intro j P hl hf hP
    obtain ⟨h1, h2, _, h4⟩ := pass_last e pos P a hpos hl
    rw [← hf] at h1 h2 h4
    exact ⟨by omega, fun i hi e => h2 ((hP _).mpr ⟨i, hi, e⟩), fun k hk h => h4 k (by omega) fun g => by
      obtain ⟨i, hi, e⟩ := (hP k).mp g
      exact h i hi e⟩
  intro j hj
  match j, hj with
  | 0, _ =>
    exact key 0 [] (by simp) rfl (by simp)
  | 1, _ =>
    exact key 1 [f0 e pos a] (by simp; omega) rfl fun k => by
      simp only [List.mem_cons, List.not_mem_nil, or_false]
      constructor
      · rintro rfl; exact ⟨0, by omega, rfl⟩
      · rintro ⟨i, hi, rfl⟩; obtain rfl : i = 0 := by omega
        rfl
  | 2, _ =>
    exact key 2 [f0 e pos a, f1 e pos a] (by simp; omega) rfl fun k => by
      simp only [List.mem_cons, List.not_mem_nil, or_false]
      constructor
      · rintro (rfl | rfl)
        · exact ⟨0, by omega, rfl⟩
        · exact ⟨1, by omega, rfl⟩
      · rintro ⟨i, hi, rfl⟩
        obtain rfl | rfl : i = 0 ∨ i = 1 := by omega
        · exact .inl rfl
        · exact .inr rfl
  | 3, _ =>
    exact key 3 [f0 e pos a, f1 e pos a, f2 e pos a] (by simp; omega) rfl fun k => by
      simp only [List.mem_cons, List.not_mem_nil, or_false]
      constructor
      · rintro (rfl | rfl | rfl)
        · exact ⟨0, by omega, rfl⟩
        · exact ⟨1, by omega, rfl⟩
        · exact ⟨2, by omega, rfl⟩
      · rintro ⟨i, hi, rfl⟩
        obtain rfl | rfl | rfl : i = 0 ∨ i = 1 ∨ i = 2 := by omega
        · exact .inl rfl
        · exact .inr (.inl rfl)
        · exact .inr (.inr rfl)

/-! ## The merge of the lanes -/

/-- A lane's `t`-th least value, the sentinel past the fourth; -/
def tv (d : ℕ → α) (pos : α) (G : ℕ → ℕ → ℕ) (l t : ℕ) : α := if t < 4 then d (G l t) else pos
/-- and its column, the fourth's past the fourth. -/
def tg (G : ℕ → ℕ → ℕ) (l t : ℕ) : ℕ := G l (min t 3)

theorem top_merge (d : ℕ → α) (L N n : ℕ) (hL : 0 < L) (pos : α) (hpos : ∀ k < N, d k < pos) (G : ℕ → ℕ → ℕ)
    (hG : ∀ l < L, ∀ t < 4, G l t < N ∧ G l t % L = l ∧ (∀ i < t, G l i ≠ G l t) ∧ ∀ k < N, k % L = l → (∀ i < t, G l i ≠ k) → LE d (G l t) k)
    (p : ℕ → ℕ → ℕ) (w : ℕ → α) (c : ℕ → ℕ) (h0 : ∀ l < L, p 0 l = 0)
    (hp : ∀ j < n, ∀ l < L, p (j + 1) l = p j l + if tg G l (p j l) = c j then 1 else 0)
    (hw : ∀ j < n, ∀ l < L, w j ≤ tv d pos G l (p j l))
    (hc : ∀ j < n, ∃ l < L, tv d pos G l (p j l) = w j ∧ tg G l (p j l) = c j)
    (hcl : ∀ j < n, ∀ l < L, tv d pos G l (p j l) = w j → c j ≤ tg G l (p j l))
    (hneed : ∀ l < L, 4 ≤ p n l → ∀ j < n, j + 1 = n → ¬ d (G l 3) ≤ w j) : Top d N n c := by
  have gmod : ∀ l < L, ∀ t, tg G l t % L = l := fun l hl t => (hG l hl (min t 3) (by omega)).2.1
  have lane : ∀ j < n, ∀ l < L, tg G l (p j l) = c j → tv d pos G l (p j l) = w j := fun j hj l hl h => by
    obtain ⟨l', hl', h1, h2⟩ := hc j hj
    obtain rfl : l' = l := by rw [← gmod l' hl' (p j l'), ← gmod l hl (p j l), h, h2]
    exact h1
  have tmono1 : ∀ l < L, ∀ t, tv d pos G l t ≤ tv d pos G l (t + 1) := fun l hl t => by
    unfold tv
    by_cases h : t + 1 < 4
    · rw [if_pos (by omega), if_pos h]
      obtain ⟨g1, g2, g3, g4⟩ := hG l hl t (by omega)
      obtain ⟨k1, k2, k3, k4⟩ := hG l hl (t + 1) h
      exact (g4 _ k1 k2 fun i hi => k3 i (by omega)).le
    · rw [if_neg h]
      split
      · exact (hpos _ (hG l hl t (by assumption)).1).le
      · exact le_rfl
  have pstep : ∀ j < n, ∀ l < L, p (j + 1) l = p j l ∨ p (j + 1) l = p j l + 1 := fun j hj l hl => by
    rw [hp j hj l hl]; split
    · exact .inr rfl
    · exact .inl rfl
  have wmono1 : ∀ j, j + 1 < n → w j ≤ w (j + 1) := fun j hj => by
    obtain ⟨l, hl, h1, _⟩ := hc (j + 1) hj
    rw [← h1]
    refine (hw j (by omega) l hl).trans ?_
    rcases pstep j (by omega) l hl with h | h <;> rw [h]
    exact tmono1 l hl _
  have wmono : ∀ m i, i + m < n → w i ≤ w (i + m) := fun m => by
    induction m with
    | zero => exact fun _ _ => le_rfl
    | succ m ih => exact fun i hi => (ih i (by omega)).trans (wmono1 (i + m) (by omega))
  have ran : ∀ l < L, ∀ j ≤ n, 4 ≤ p j l → ∃ i < j, w i = d (G l 3) := fun l hl j => by
    induction j with
    | zero => intro _ h; rw [h0 l hl] at h; omega
    | succ j ih =>
      intro hj h
      by_cases g : 4 ≤ p j l
      · obtain ⟨i, hi, e⟩ := ih (by omega) g
        exact ⟨i, by omega, e⟩
      · have e : p j l = 3 := by rcases pstep j hj l hl with h' | h' <;> omega
        have hh := hp j hj l hl
        by_cases c0 : tg G l (p j l) = c j
        · have := lane j hj l hl c0
          refine ⟨j, by omega, this.symm.trans ?_⟩
          rw [e]; rfl
        · rw [if_neg c0] at hh; omega
  have plast : ∀ l < L, p n l ≤ 3 := fun l hl => by
    by_contra g
    obtain ⟨i, hi, e⟩ := ran l hl n le_rfl (by omega)
    obtain ⟨m, rfl⟩ : ∃ m, n = i + m + 1 := ⟨n - i - 1, by omega⟩
    exact hneed l hl (by omega) (i + m) (by omega) rfl (e ▸ wmono m i (by omega))
  have pback : ∀ l < L, ∀ m j, j + m = n → p j l ≤ 3 := fun l hl m => by
    induction m with
    | zero => rintro j rfl; exact plast l hl
    | succ m ih =>
      intro j hj
      have := ih (j + 1) (by omega)
      rcases pstep j (by omega) l hl with h | h <;> omega
  have p3 : ∀ j ≤ n, ∀ l < L, p j l ≤ 3 := fun j hj l hl => pback l hl (n - j) j (by omega)
  have etg : ∀ j ≤ n, ∀ l < L, tg G l (p j l) = G l (p j l) := fun j hj l hl => by
    unfold tg; rw [Nat.min_eq_left (p3 j hj l hl)]
  have etv : ∀ j ≤ n, ∀ l < L, tv d pos G l (p j l) = d (G l (p j l)) := fun j hj l hl => by
    unfold tv; rw [if_pos (by have := p3 j hj l hl; omega)]
  have picked : ∀ j ≤ n, ∀ l < L, ∀ t < 4, (∃ i < j, c i = G l t) ↔ t < p j l := fun j => by
    induction j with
    | zero => intro _ l hl t _; rw [h0 l hl]; exact ⟨fun ⟨i, hi, _⟩ => absurd hi (Nat.not_lt_zero i), fun h => absurd h (Nat.not_lt_zero t)⟩
    | succ j ih =>
      intro hj l hl t ht
      have inj : ∀ t < 4, ∀ t' < 4, G l t = G l t' → t = t' := fun t ht t' ht' e => by
        rcases lt_trichotomy t t' with h | h | h
        · exact absurd e ((hG l hl t' ht').2.2.1 t h)
        · exact h
        · exact absurd e.symm ((hG l hl t ht).2.2.1 t' h)
      have a := ih (by omega) l hl t ht
      have b := hp j hj l hl
      rw [etg j (by omega) l hl] at b
      have p4 := p3 j (by omega) l hl
      constructor
      · rintro ⟨i, hi, e⟩
        rcases Nat.lt_succ_iff_lt_or_eq.mp hi with h | rfl
        · have := a.mp ⟨i, h, e⟩; omega
        · obtain ⟨l', hl', _, h2⟩ := hc i hj
          obtain rfl : l' = l := by
            rw [← gmod l' hl' (p i l'), h2, e]; exact (hG l hl t ht).2.1
          rw [etg i (by omega) l' hl'] at h2
          rw [if_pos h2] at b
          have := inj _ ht _ (by omega) (e.symm.trans h2.symm)
          omega
      · intro h
        by_cases g : t < p j l
        · obtain ⟨i, hi, e⟩ := a.mpr g
          exact ⟨i, by omega, e⟩
        · by_cases c0 : G l (p j l) = c j
          · rw [if_pos c0] at b
            obtain rfl : t = p j l := by omega
            exact ⟨j, by omega, c0.symm⟩
          · rw [if_neg c0] at b; omega
  intro j hj
  obtain ⟨l, hl, h1, h2⟩ := hc j hj
  have p4 := p3 j hj.le l hl
  rw [etg j hj.le l hl] at h2
  rw [etv j hj.le l hl, h2] at h1
  refine ⟨h2 ▸ (hG l hl _ (by omega)).1, fun i hi e => ?_, fun k hk hne => ?_⟩
  · have := (picked j hj.le l hl (p j l) (by omega)).mp ⟨i, hi, e.trans h2.symm⟩
    omega
  · have hl' := Nat.mod_lt k hL
    have q4 := p3 j hj.le _ hl'
    have a : LE d (G (k % L) (p j (k % L))) k := (hG _ hl' _ (by omega)).2.2.2 k hk rfl fun i hi e => by
      obtain ⟨i', hi', e'⟩ := (picked j hj.le _ hl' i (by omega)).mpr hi
      exact hne i' hi' (e'.trans e)
    refine LE.trans (.of_le ?_ fun e => ?_) a
    · rw [h1, ← etv j hj.le _ hl']; exact hw j hj _ hl'
    · rw [← etg j hj.le _ hl']
      exact hcl j hj _ hl' (by rw [etv j hj.le _ hl', ← e, h1])

end Cert.Proof.Sel

end
-- ==== Proof.RowI.lean ====
/-
  The selection body over the extended reals, row by row.

  Each row of the block of distances goes its own way through the passes, the merge and the exact rounds. Here the
  vectors of those are read at one row, as the plain selection of `Sel`.
-/
module

public import proofs.«01_k».proof.Proof.RunI
public import proofs.«01_k».proof.Proof.Sel
public import Idealize.ShloMosaic.Lib.IdealHost
public import Idealize.ShloMosaic.Lib.Pointwise.Index
public import Idealize.ShloMosaic.PureOps.Ideal.Laws
public import Idealize.ShloMosaic.PureOps.Reduce

@[expose] public section

noncomputable section

namespace Cert.Proof.KernelIdeal

open Cert.KernelIdeal Cert.KernelIdeal.Gen
open Idealize.ShloMosaic Idealize.SL.Sem
open Cert.Proof.Sel

/-! ## Numbers -/

/-- A natural number as an extended real. -/
def nE (n : ℕ) : EReal := ((n : ℝ) : EReal)

theorem nE_inj {a b : ℕ} : nE a = nE b ↔ a = b := by
  unfold nE; rw [EReal.coe_eq_coe_iff, Nat.cast_inj]
theorem nE_le {a b : ℕ} : nE a ≤ nE b ↔ a ≤ b := by
  unfold nE; rw [EReal.coe_le_coe_iff, Nat.cast_le]

/-- The float whose word is `w` is the natural `n`. -/
theorem ofBits_nat (w : BitVec 32) (n : ℕ) (hs : (w.extractLsb' 31 1 == 1#1) = false) (h0 : (w.extractLsb' 23 8).toNat ≠ 0)
    (h : (w.extractLsb' 23 8).toNat ≤ 150) (hn : 2 ^ 23 + (w.extractLsb' 0 23).toNat = n * 2 ^ (150 - (w.extractLsb' 23 8).toNat)) :
    Ideal.ofBits .f32 w = nE n := by
  show Ideal.ieee 8 23 w = nE n
  unfold Ideal.ieee nE
  dsimp only
  have hs' : (w.extractLsb' (8 + 23) 1 == 1#1) = false := hs
  rw [if_neg (by omega), if_neg h0, hs', hn]
  congr 1
  have e : ((w.extractLsb' 23 8).toNat : ℤ) - (2 ^ (8 - 1) - 1) - (23 : ℕ) = -((150 - (w.extractLsb' 23 8).toNat : ℕ) : ℤ) := by
    push_cast [Nat.cast_sub h]; ring
  rw [e, zpow_neg, zpow_natCast]
  push_cast
  simp

theorem cw_ok : ∀ a < 64, a ≠ 0 → ((cw a).extractLsb' 31 1 == 1#1) = false ∧ ((cw a).extractLsb' 23 8).toNat ≠ 0 ∧
    ((cw a).extractLsb' 23 8).toNat ≤ 150 ∧
    2 ^ 23 + ((cw a).extractLsb' 0 23).toNat = a * 2 ^ (150 - ((cw a).extractLsb' 23 8).toNat) := by decide

theorem ofBits_cw (a : ℕ) (ha : a < 64) : Ideal.ofBits .f32 (cw a) = nE a := by
  by_cases h : a = 0
  · subst h
    show Ideal.ofBits .f32 0x00000000#32 = nE 0
    rw [Ideal.ofBits_zero_f32]; unfold nE; simp
  · obtain ⟨h1, h2, h3, h4⟩ := cw_ok a ha h
    exact ofBits_nat _ _ h1 h2 h3 h4

theorem ofBits_128 : Ideal.ofBits .f32 0x43000000#32 = nE 128 :=
  ofBits_nat _ _ (by decide) (by decide) (by decide) (by decide)

/-- The sentinel of values, -/
abbrev POS : EReal := Ideal.ofBits .f32 0x7149F2CA#32
/-- and the one of columns. -/
abbrev FAR : EReal := Ideal.ofBits .f32 0x4BE4E1C0#32

theorem far_eq : FAR = nE 30000000 := by
  unfold FAR nE
  simp [Ideal.ofBits, Ideal.ieee, -EReal.coe_mul]; norm_num

theorem far_gt (n : ℕ) (h : n < 8192) : nE n < FAR := by
  rw [far_eq]; unfold nE; rw [EReal.coe_lt_coe_iff, Nat.cast_lt]; omega

theorem top_word : Ideal.ofBits .f32 0x7F800000#32 = ⊤ := by
  simp [Ideal.ofBits, Ideal.ieee]

/-! ## Reading the operations -/

theorem sel_apply {s : Shape} (c : IVec s 1) (a b : FVec Ideal s .f32) (i : s.Idx) :
    select c a b i = if c i = 1#1 then a i else b i := rfl

theorem bit_true (p : Prop) [Decidable p] : BitVec.ofBool (decide p) = 1#1 ↔ p := by
  by_cases h : p <;> simp [h]

theorem oeq_iff {s : Shape} (x y : FVec Ideal s .f32) (i : s.Idx) : cmpf .oeq x y i = 1#1 ↔ x i = y i := bit_true _
theorem one_iff {s : Shape} (x y : FVec Ideal s .f32) (i : s.Idx) : cmpf .one x y i = 1#1 ↔ x i ≠ y i := bit_true _
theorem olt_iff {s : Shape} (x y : FVec Ideal s .f32) (i : s.Idx) : cmpf .olt x y i = 1#1 ↔ x i < y i := bit_true _
theorem ole_iff {s : Shape} (x y : FVec Ideal s .f32) (i : s.Idx) : cmpf .ole x y i = 1#1 ↔ x i ≤ y i := bit_true _

theorem and_iff {s : Shape} (x y : IVec s 1) (i : s.Idx) : andi x y i = 1#1 ↔ x i = 1#1 ∧ y i = 1#1 := by
  have : ∀ a b : BitVec 1, a &&& b = 1#1 ↔ a = 1#1 ∧ b = 1#1 := by decide
  exact this _ _
theorem or_iff {s : Shape} (x y : IVec s 1) (i : s.Idx) : ori x y i = 1#1 ↔ x i = 1#1 ∨ y i = 1#1 := by
  have : ∀ a b : BitVec 1, a ||| b = 1#1 ↔ a = 1#1 ∨ b = 1#1 := by decide
  exact this _ _

/-- The columns of a block, as floats. -/
theorem cols_apply {C : ℕ} (hC : C < 2 ^ 31) (h : (⟨2, ![128, C]⟩ : Shape).Iotas .tc 32 [1]) (r : Fin 128) (l : Fin C) :
    (sitofp .f32 (iota .tc ⟨2, ![128, C]⟩ 32 [1] h) : FVec Ideal ⟨2, ![128, C]⟩ .f32) (ix2 r l) = nE l.val := by
  show (((BitVec.ofNat 32 (0 * C + l.val)).toInt : ℝ) : EReal) = nE l.val
  have e : (BitVec.ofNat 32 (0 * C + l.val)).toInt = (l.val : ℤ) := by
    have := l.isLt
    rw [Nat.zero_mul, Nat.zero_add, BitVec.toInt_eq_toNat_of_lt, BitVec.toNat_ofNat, Nat.mod_eq_of_lt (by omega)]
    rw [BitVec.toNat_ofNat, Nat.mod_eq_of_lt (by omega)]
    omega
  rw [e]; unfold nE; push_cast; rfl

/-- A row's least value, and that it is attained. -/
theorem rowmin {C : ℕ} (hC : 0 < C) (x : FVec Ideal ⟨2, ![128, C]⟩ .f32) (h : (⟨2, ![128, C]⟩ : Shape).Reduces [1] S128) (hφ hacc) (r : Fin 128) :
    (∀ l, (shapeCast S128x1 (multiReduction .minimumf [1] S128 x 0x7F800000#32 h hφ hacc : FVec Ideal S128 .f32) shapeCasts_S128_S128x1) (ix2 r 0) ≤ x (ix2 r l)) ∧
    ∃ l, x (ix2 r l) = (shapeCast S128x1 (multiReduction .minimumf [1] S128 x 0x7F800000#32 h hφ hacc : FVec Ideal S128 .f32) shapeCasts_S128_S128x1) (ix2 r 0) := by
  rw [shapeCast_apply _ _ (ix2 r 0) (ix1 r) (by rw [Shape.rowMajor_val_two, Shape.rowMajor_val_one]; show r.val = r.val * 1 + 0; omega)]
  rw [multiReduction_minimumf_eq_fold]
  have hd : ∀ l : Fin C, h.drop (ix2 r l) = ix1 r := fun l => funext fun b => by
    obtain rfl : b = 0 := Subsingleton.elim _ _
    exact Fin.ext (h.drop_apply_val_of_eq (ix2 r l) 0 0 Nat.one_pos rfl)
  have hu : ∀ i, h.drop i = ix1 r → ∃ l, i = ix2 r l := fun i hi => by
    refine ⟨i 1, ?_⟩
    have := congrArg Fin.val (congrFun hi 0)
    rw [h.drop_apply_val_of_eq i 0 0 Nat.one_pos rfl] at this
    rw [eq_ix2 i]
    exact congrArg (fun a => ix2 a (i 1)) (Fin.ext this)
  have e : (FloatOps.ofBits (F := Ideal) .f32 0x7F800000#32 : EReal) = ⊤ := top_word
  set m := Finset.fold (FloatOps.minimumf (F := Ideal) (φ := .f32)) (FloatOps.ofBits .f32 0x7F800000#32) x (Finset.univ.filter fun i => h.drop i = ix1 r) with hm
  have hm' : m = Finset.fold min (⊤ : EReal) x (Finset.univ.filter fun i => h.drop i = ix1 r) := by rw [hm, e]; rfl
  rw [hm']
  refine ⟨fun l => ((Finset.le_fold_min _).mp le_rfl).2 _ (Finset.mem_filter.mpr ⟨Finset.mem_univ _, hd l⟩), ?_⟩
  have lo : ∀ l, Finset.fold min (⊤ : EReal) x (Finset.univ.filter fun i => h.drop i = ix1 r) ≤ x (ix2 r l) :=
    fun l => ((Finset.le_fold_min _).mp le_rfl).2 _ (Finset.mem_filter.mpr ⟨Finset.mem_univ _, hd l⟩)
  rcases (Finset.fold_min_le _).mp (le_refl (Finset.fold min (⊤ : EReal) x (Finset.univ.filter fun i => h.drop i = ix1 r))) with g | ⟨i, hi, g⟩
  · exact ⟨⟨0, hC⟩, le_antisymm (le_top.trans g) (lo _)⟩
  · obtain ⟨l, rfl⟩ := hu i (Finset.mem_filter.mp hi).2
    exact ⟨l, le_antisymm g (lo l)⟩

theorem spread_apply {C : ℕ} (x : FVec Ideal S128x1 .f32) (h : S128x1.Broadcasts ⟨2, ![128, C]⟩) (r : Fin 128) (l : Fin C) :
    broadcastTo ⟨2, ![128, C]⟩ x h (ix2 r l) = x (ix2 r 0) :=
  broadcastTo_apply x h _ _ fun a => match a with | ⟨0, _⟩ => rfl | ⟨1, _⟩ => rfl

/-! ## One lane's passes -/

variable (D : FVec Ideal S128x8192 .f32) (r : Fin 128)

/-- A row of the distances. -/
def row : ℕ → EReal := fun k => if h : k < 8192 then D (ix2 r ⟨k, h⟩) else 0

theorem row_of (k : Fin 8192) : row D r k.val = D (ix2 r k) := dif_pos k.isLt

theorem slab_apply (a : ℕ) (ha : a < 64) (l : Fin 128) : slab D a (ix2 r l) = row D r (128 * a + l.val) := by
  have hl := l.isLt
  rw [show row D r (128 * a + l.val) = D (ix2 r ⟨128 * a + l.val, by omega⟩) from dif_pos (by omega)]
  refine extractStridedSlice_apply _ _ _ _ _ fun x => ?_
  match x with
  | ⟨0, _⟩ => exact (Nat.zero_add _).symm
  | ⟨1, _⟩ => show 128 * a + l.val = 128 * (a % 64) + l.val; rw [Nat.mod_eq_of_lt ha]

/-- Slabs taken by earlier passes, in one lane. -/
abbrev Took (l : Fin 128) (ps : List (FVec Ideal S128x128 .f32)) (P : List ℕ) : Prop := List.Forall₂ (fun p n => p (ix2 r l) = nE n) ps P

variable {r}

theorem takes_apply {l : Fin 128} {ps : List (FVec Ideal S128x128 .f32)} {P : List ℕ} (h : Took r l ps P) (a : ℕ) (ha : a < 64)
    (s m : FVec Ideal S128x128 .f32) : takes ps (cw a) s m (ix2 r l) = 1#1 ↔ s (ix2 r l) < m (ix2 r l) ∧ a ∉ P := by
  have key : ∀ k : IVec S128x128 1, (ps.foldl (fun k p => andi k (cmpf .one p (bc (cw a)))) k) (ix2 r l) = 1#1 ↔ k (ix2 r l) = 1#1 ∧ a ∉ P := by
    induction h with
    | nil => intro k; simp
    | cons hp _ ih =>
      intro k
      rw [List.foldl_cons, ih, and_iff, one_iff, hp]
      have e : bc (F := Ideal) (cw a) (ix2 r l) = nE a := ofBits_cw a ha
      rw [e, List.mem_cons, not_or, Ne, nE_inj, and_assoc, @eq_comm _ _ a]
  unfold takes
  rw [key, olt_iff]

theorem first_apply {l : Fin 128} {ps : List (FVec Ideal S128x128 .f32)} {P : List ℕ} (h : Took r l ps P)
    (s : FVec Ideal S128x128 .f32) : first s ps (ix2 r l) = if 0 ∈ P then POS else s (ix2 r l) := by
  have e : bc (F := Ideal) 0x00000000#32 (ix2 r l) = nE 0 := ofBits_cw 0 (by decide)
  have key : ∀ (ps : List (FVec Ideal S128x128 .f32)) (P : List ℕ) (_ : Took r l ps P) (k : IVec S128x128 1),
      (ps.foldl (fun k q => ori k (cmpf .oeq q (bc 0x00000000#32))) k) (ix2 r l) = 1#1 ↔ k (ix2 r l) = 1#1 ∨ 0 ∈ P := by
    intro ps P h
    induction h with
    | nil => intro k; simp
    | cons hp _ ih =>
      intro k
      rw [List.foldl_cons, ih, or_iff, oeq_iff, hp, e, List.mem_cons, nE_inj, or_assoc, @eq_comm _ _ 0]
  cases h with
  | nil => rfl
  | @cons p _ _ _ hp h =>
    dsimp only [first]
    rw [sel_apply]
    have c := key _ _ h (cmpf .oeq p (bc 0x00000000#32))
    rw [oeq_iff, hp, e, nE_inj, @eq_comm _ _ 0, ← List.mem_cons] at c
    exact if_congr c rfl rfl

theorem pass_apply {l : Fin 128} {ps : List (FVec Ideal S128x128 .f32)} {P : List ℕ} (h : Took r l ps P) (a : ℕ) (ha : a < 64) :
    M D ps a (ix2 r l) = (pass (fun a => row D r (128 * a + l.val)) POS P a).1 ∧
      A D ps a (ix2 r l) = nE (pass (fun a => row D r (128 * a + l.val)) POS P a).2 := by
  induction a with
  | zero =>
    unfold M A pass
    rw [first_apply h, slab_apply D r 0 ha]
    exact ⟨rfl, ofBits_cw 0 (by decide)⟩
  | succ a ih =>
    obtain ⟨i1, i2⟩ := ih (by omega)
    unfold M A pass
    have t := takes_apply h (a + 1) ha (slab D (a + 1)) (M D ps a)
    rw [slab_apply D r (a + 1) ha, i1] at t
    rw [sel_apply, sel_apply, i1, i2, slab_apply D r (a + 1) ha]
    have e : bc (F := Ideal) (cw (a + 1)) (ix2 r l) = nE (a + 1) := ofBits_cw (a + 1) ha
    rw [e]
    by_cases c : row D r (128 * (a + 1) + l.val) < (pass (fun a => row D r (128 * a + l.val)) POS P a).1 ∧ a + 1 ∉ P
    · rw [if_pos (t.mpr c), if_pos (t.mpr c), if_pos c]; exact ⟨rfl, rfl⟩
    · rw [if_neg (mt t.mp c), if_neg (mt t.mp c), if_neg c]; exact ⟨rfl, rfl⟩

theorem gg_apply (x : FVec Ideal S128x128 .f32) (l : Fin 128) (n : ℕ) (h : x (ix2 r l) = nE n) : gg x (ix2 r l) = nE (128 * n + l.val) := by
  show x (ix2 r l) * Ideal.ofBits .f32 0x43000000#32 + (sitofp .f32 (iota .tc S128x128 32 [1] iota_S128x128_d1_w32) : FVec Ideal S128x128 .f32) (ix2 r l) = _
  rw [cols_apply (by decide) iota_S128x128_d1_w32 r l, h, ofBits_128]
  unfold nE
  rw [← EReal.coe_mul, ← EReal.coe_add]
  congr 1; push_cast; ring

end Cert.Proof.KernelIdeal

end
-- ==== Proof.MergeI.lean ====
/-
  The merge and the exact rounds of the selection body, read at one row: what the body stores is the selection.
-/
module

public import proofs.«01_k».proof.Proof.RowI

@[expose] public section

noncomputable section

namespace Cert.Proof.KernelIdeal

open Cert.KernelIdeal Cert.KernelIdeal.Gen
open Idealize.ShloMosaic Idealize.SL.Sem
open Cert.Proof.Sel

attribute [local irreducible] pass M A

variable (D : FVec Ideal S128x8192 .f32) (r : Fin 128)

/-- The column of lane `l`'s `t`-th least value. -/
def G (l t : ℕ) : ℕ := 128 * four (fun a => row D r (128 * a + l)) POS 63 t + l

variable {D r}

theorem G_top (hpos : ∀ k < 8192, row D r k < POS) (l : ℕ) (hl : l < 128) (t : ℕ) (ht : t < 4) :
    G D r l t < 8192 ∧ G D r l t % 128 = l ∧ (∀ i < t, G D r l i ≠ G D r l t) ∧
      ∀ k < 8192, k % 128 = l → (∀ i < t, G D r l i ≠ k) → LE (row D r) (G D r l t) k := by
  obtain ⟨h1, h2, h3⟩ := top_four (fun a => row D r (128 * a + l)) POS 63 (fun b hb => hpos _ (by omega)) (by omega) t ht
  unfold G
  refine ⟨by omega, by omega, fun i hi e => h2 i hi (by omega), fun k hk hm hne => ?_⟩
  obtain ⟨b, rfl⟩ : ∃ b, k = 128 * b + l := ⟨k / 128, by omega⟩
  rcases h3 b (by omega) fun i hi e => hne i hi (by rw [e]) with h | ⟨h, h'⟩
  · exact .inl h
  · exact .inr ⟨h, by omega⟩

/-- The merge's state at a lane whose first `p` values are gone. -/
def At (D : FVec Ideal S128x8192 .f32) (r : Fin 128) (s : HS Ideal) (l : Fin 128) (p : ℕ) : Prop :=
  (s.m1 (ix2 r l) = tv (row D r) POS (G D r) l.val p ∧ s.m2 (ix2 r l) = tv (row D r) POS (G D r) l.val (p + 1) ∧
    s.m3 (ix2 r l) = tv (row D r) POS (G D r) l.val (p + 2) ∧ s.m4 (ix2 r l) = tv (row D r) POS (G D r) l.val (p + 3)) ∧
  (s.g1 (ix2 r l) = nE (tg (G D r) l.val p) ∧ s.g2 (ix2 r l) = nE (tg (G D r) l.val (p + 1)) ∧
    s.g3 (ix2 r l) = nE (tg (G D r) l.val (p + 2)) ∧ s.g4 (ix2 r l) = nE (tg (G D r) l.val (p + 3)))

theorem tv_lt (d : ℕ → EReal) (pos : EReal) (H : ℕ → ℕ → ℕ) (l t : ℕ) (h : t < 4) : tv d pos H l t = d (H l t) := if_pos h

theorem at_zero (hpos : ∀ k < 8192, row D r k < POS) (l : Fin 128) : At D r (hs0 D) l 0 := by
  have hl := l.isLt
  let e : ℕ → EReal := fun a => row D r (128 * a + l.val)
  have he : ∀ b ≤ 63, e b < POS := fun b hb => hpos _ (by omega)
  have s0 : Took r l [] [] := .nil
  have a0 := pass_apply D s0 63 (by decide)
  have s1 : Took r l [A D [] 63] [f0 e POS 63] := .cons a0.2 .nil
  have a1 := pass_apply D s1 63 (by decide)
  have s2 : Took r l [A D [] 63, A D [A D [] 63] 63] [f0 e POS 63, f1 e POS 63] := .cons a0.2 (.cons a1.2 .nil)
  have a2 := pass_apply D s2 63 (by decide)
  have s3 : Took r l [A D [] 63, A D [A D [] 63] 63, A D [A D [] 63, A D [A D [] 63] 63] 63] [f0 e POS 63, f1 e POS 63, f2 e POS 63] :=
    .cons a0.2 (.cons a1.2 (.cons a2.2 .nil))
  have a3 := pass_apply D s3 63 (by decide)
  have b0 := (pass_last e POS [] 63 he (by simp)).2.2.1
  have b1 := (pass_last e POS [f0 e POS 63] 63 he (by simp)).2.2.1
  have b2 := (pass_last e POS [f0 e POS 63, f1 e POS 63] 63 he (by simp)).2.2.1
  have b3 := (pass_last e POS [f0 e POS 63, f1 e POS 63, f2 e POS 63] 63 he (by simp)).2.2.1
  refine ⟨⟨?_, ?_, ?_, ?_⟩, gg_apply _ l _ a0.2, gg_apply _ l _ a1.2, gg_apply _ l _ a2.2, gg_apply _ l _ a3.2⟩
  · rw [tv_lt _ _ _ _ _ (by omega)]; exact a0.1.trans b0
  · rw [tv_lt _ _ _ _ _ (by omega)]; exact a1.1.trans b1
  · rw [tv_lt _ _ _ _ _ (by omega)]; exact a2.1.trans b2
  · rw [tv_lt _ _ _ _ _ (by omega)]; exact a3.1.trans b3

theorem hit_iff (s : HS Ideal) (l : Fin 128) : s.hit (ix2 r l) = 1#1 ↔ s.g1 (ix2 r l) = s.wg (ix2 r 0) := by
  unfold HS.hit
  rw [oeq_iff, spread_apply]

theorem at_step {s : HS Ideal} {l : Fin 128} {p : ℕ} (h : At D r s l p) :
    At D r s.step l (p + if s.g1 (ix2 r l) = s.wg (ix2 r 0) then 1 else 0) := by
  obtain ⟨⟨h1, h2, h3, h4⟩, k1, k2, k3, k4⟩ := h
  unfold At HS.step
  dsimp only
  simp only [sel_apply, hit_iff]
  by_cases c : s.g1 (ix2 r l) = s.wg (ix2 r 0)
  · simp only [if_pos c]
    refine ⟨⟨h2, h3, h4, (if_neg (by omega)).symm⟩, k2, k3, k4, k4.trans ?_⟩
    unfold tg
    rw [show min (p + 3) 3 = min (p + 1 + 3) 3 by omega]
  · simp only [if_neg c, Nat.add_zero]
    exact ⟨⟨h1, h2, h3, h4⟩, k1, k2, k3, k4⟩

variable (D r) in
/-- How many of each lane's values are gone after `j` rounds. -/
def ptr : ℕ → ℕ → ℕ
  | 0, _ => 0
  | j + 1, l => ptr j l + if nE (tg (G D r) l (ptr j l)) = (hs D j).wg (ix2 r 0) then 1 else 0

theorem at_ptr (hpos : ∀ k < 8192, row D r k < POS) (l : Fin 128) (j : ℕ) : At D r (hs D j) l (ptr D r j l.val) := by
  induction j with
  | zero => exact at_zero hpos l
  | succ j ih =>
    have := at_step ih
    rw [ih.2.1] at this
    exact this

/-- A round's least value and its column. -/
theorem round_min (hpos : ∀ k < 8192, row D r k < POS) (j : ℕ) :
    (∀ l < 128, (hs D j).w (ix2 r 0) ≤ tv (row D r) POS (G D r) l (ptr D r j l)) ∧
    ∃ c, (hs D j).wg (ix2 r 0) = nE c ∧
      (∃ l < 128, tv (row D r) POS (G D r) l (ptr D r j l) = (hs D j).w (ix2 r 0) ∧ tg (G D r) l (ptr D r j l) = c) ∧
      ∀ l < 128, tv (row D r) POS (G D r) l (ptr D r j l) = (hs D j).w (ix2 r 0) → c ≤ tg (G D r) l (ptr D r j l) := by
  obtain ⟨w1, lw, w2⟩ := rowmin (by decide) (hs D j).m1 reduces_S128x128_S128 (.inl rfl) rfl r
  obtain ⟨c1, lc, c2⟩ := rowmin (by decide) (hs D j).cand reduces_S128x128_S128 (.inl rfl) rfl r
  change ∀ l, (hs D j).w (ix2 r 0) ≤ _ at w1
  change _ = (hs D j).w (ix2 r 0) at w2
  change ∀ l, (hs D j).wg (ix2 r 0) ≤ _ at c1
  change _ = (hs D j).wg (ix2 r 0) at c2
  have cd : ∀ l, (hs D j).cand (ix2 r l) = if (hs D j).m1 (ix2 r l) = (hs D j).w (ix2 r 0) then (hs D j).g1 (ix2 r l) else FAR := fun l => by
    unfold HS.cand
    rw [sel_apply]
    simp only [oeq_iff, spread_apply]
    rfl
  have tgl : ∀ l < 128, tg (G D r) l (ptr D r j l) < 8192 := fun l hl => (G_top hpos l hl _ (by omega)).1
  have lo : (hs D j).wg (ix2 r 0) < FAR := by
    refine (c1 lw).trans_lt ?_
    rw [cd, if_pos w2, (at_ptr hpos lw j).2.1]
    exact far_gt _ (tgl _ lw.isLt)
  rw [cd] at c2
  have hm : (hs D j).m1 (ix2 r lc) = (hs D j).w (ix2 r 0) := by
    by_contra g
    rw [if_neg g] at c2
    exact absurd lo (by rw [← c2]; exact lt_irrefl _)
  rw [if_pos hm, (at_ptr hpos lc j).2.1] at c2
  refine ⟨fun l hl => by rw [← (at_ptr hpos ⟨l, hl⟩ j).1.1]; exact w1 ⟨l, hl⟩, _, c2.symm, ⟨lc.val, lc.isLt, ?_, rfl⟩, fun l hl h => ?_⟩
  · rw [← (at_ptr hpos lc j).1.1]; exact hm
  · have h' : (hs D j).m1 (ix2 r ⟨l, hl⟩) = (hs D j).w (ix2 r 0) := (at_ptr hpos ⟨l, hl⟩ j).1.1.trans h
    have := c1 ⟨l, hl⟩
    rw [cd, if_pos h', (at_ptr hpos ⟨l, hl⟩ j).2.1, ← c2, nE_le] at this
    exact this

/-- When no lane ran out too early, the merge's columns are the selection. -/
theorem merge_top (hpos : ∀ k < 8192, row D r k < POS) (hn : ∀ l : Fin 128, ¬ ((hs D 18).m1 (ix2 r l) = POS ∧ (hs0 D).m4 (ix2 r l) ≤ (hs D 17).w (ix2 r 0))) :
    ∃ c, Top (row D r) 8192 18 c ∧ ∀ j < 18, (hs D j).wg (ix2 r 0) = nE (c j) := by
  choose c hc using fun j => (round_min hpos j).2
  refine ⟨c, ?_, fun j _ => (hc j).1⟩
  refine top_merge (row D r) 128 8192 18 (by decide) POS hpos (G D r) (fun l hl t ht => G_top hpos l hl t ht) (ptr D r)
    (fun j => (hs D j).w (ix2 r 0)) c (fun _ _ => rfl) (fun j _ l _ => ?_) (fun j _ l hl => (round_min hpos j).1 l hl)
    (fun j _ => (hc j).2.1) (fun j _ => (hc j).2.2) (fun l hl h4 j hj e => ?_)
  · conv_lhs => unfold ptr
    refine congrArg (ptr D r j l + ·) (if_congr ?_ rfl rfl)
    rw [(hc j).1, nE_inj]
  · obtain rfl : j = 17 := by omega
    intro hle
    refine hn ⟨l, hl⟩ ⟨(at_ptr hpos ⟨l, hl⟩ 18).1.1.trans (if_neg (show ¬ ptr D r 18 l < 4 by omega)), ?_⟩
    rw [(at_zero hpos ⟨l, hl⟩).1.2.2.2]
    exact hle

/-- The exact rounds' columns are the selection. -/
theorem rounds_top (hpos : ∀ k < 8192, row D r k < POS) :
    ∃ c, Top (row D r) 8192 18 c ∧ ∀ j < 18, fbw (fb D j) (ix2 r 0) = nE (c j) := by
  have ln : ∀ k : Fin 8192, lanes2 (F := Ideal) (ix2 r k) = nE k.val := fun k => cols_apply (by decide) iota_S128x8192_d1_w32 r k
  have key : ∀ x : FVec Ideal S128x8192 .f32, ∃ c : Fin 8192, fbw x (ix2 r 0) = nE c.val ∧ (∀ k, x (ix2 r c) ≤ x (ix2 r k)) ∧
      ∀ k, x (ix2 r k) = x (ix2 r c) → c.val ≤ k.val := fun x => by
    obtain ⟨w1, lw, w2⟩ := rowmin (by decide) x reduces_S128x8192_S128 (.inl rfl) rfl r
    obtain ⟨c1, lc, c2⟩ := rowmin (by decide) (fbc x) reduces_S128x8192_S128 (.inl rfl) rfl r
    change ∀ l, fbw x (ix2 r 0) ≤ _ at c1
    change _ = fbw x (ix2 r 0) at c2
    have cd : ∀ k, fbc x (ix2 r k) = if x (ix2 r k) = x (ix2 r lw) then nE k.val else FAR := fun k => by
      unfold fbc
      rw [sel_apply, ln]
      simp only [oeq_iff, spread_apply]
      rw [← w2]
      rfl
    rw [← w2] at w1
    have lo : fbw x (ix2 r 0) < FAR := by
      refine (c1 lw).trans_lt ?_
      rw [cd, if_pos rfl]
      exact far_gt _ lw.isLt
    rw [cd] at c2
    have hm : x (ix2 r lc) = x (ix2 r lw) := by
      by_contra g
      rw [if_neg g] at c2
      exact absurd lo (by rw [← c2]; exact lt_irrefl _)
    rw [if_pos hm] at c2
    refine ⟨lc, c2.symm, fun k => by rw [hm]; exact w1 k, fun k h => ?_⟩
    have := c1 k
    rw [cd, if_pos (h.trans hm), ← c2, nE_le] at this
    exact this
  choose c hc using fun j => key (fb D j)
  refine ⟨fun j => (c j).val, ?_, fun j _ => (hc j).1⟩
  refine top_rounds (row D r) 8192 18 (by decide) POS hpos (fun j => row (fb D j) r) _ (fun k _ => rfl) (fun j _ k hk => ?_)
    (fun j _ => (c j).isLt) (fun j _ k hk => ?_) (fun j _ k hk => ?_)
  · rw [row_of (fb D (j + 1)) r ⟨k, hk⟩, row_of (fb D j) r ⟨k, hk⟩]
    conv_lhs => unfold fb
    rw [sel_apply]
    simp only [oeq_iff, spread_apply, ln, (hc j).1, nE_inj]
    rfl
  · rw [row_of _ r (c j), row_of _ r ⟨k, hk⟩]; exact (hc j).2.1 _
  · rw [row_of _ r (c j), row_of _ r ⟨k, hk⟩]; exact (hc j).2.2 _

/-- A column as a stored integer. -/
theorem fptosi_nat (n : ℕ) (h : n < 8192) : Ideal.fptosi 32 (nE n) = BitVec.ofNat 32 n := by
  have e : (if 0 ≤ (n : ℝ) then ⌊(n : ℝ)⌋ else ⌈(n : ℝ)⌉) = (n : ℤ) := by
    rw [if_pos (Nat.cast_nonneg n), Int.floor_natCast]
  show BitVec.ofInt 32 (max (-((2 ^ (32 - 1) : ℕ) : ℤ)) (min (((2 ^ (32 - 1) : ℕ) : ℤ) - 1) (if 0 ≤ (n : ℝ) then ⌊(n : ℝ)⌋ else ⌈(n : ℝ)⌉))) = _
  rw [e, show max (-((2 ^ (32 - 1) : ℕ) : ℤ)) (min (((2 ^ (32 - 1) : ℕ) : ℤ) - 1) (n : ℤ)) = (n : ℤ) by norm_num; omega]
  exact BitVec.ofInt_natCast 32 n

/-- A lane that ran out too early raises the flag. -/
theorem need_of {s : HS Ideal} {m4 : FVec Ideal S128x128 .f32} (l : Fin 128)
    (h : s.step.m1 (ix2 r l) = POS ∧ m4 (ix2 r l) ≤ s.w (ix2 r 0)) : need s m4 = 1#1 := by
  unfold need
  set x : FVec Ideal S128x128 .f32 := select (andi (cmpf .oeq s.step.m1 (bc 0x7149F2CA#32)) (cmpf .ole m4 (broadcastTo S128x128 s.w broadcasts_S128x1_S128x128)))
        (bc 0x3F800000#32) (bc 0x00000000#32) with hx
  have h1 : x (ix2 r l) = 1 := by
    rw [hx, sel_apply, if_pos ((and_iff _ _ _).mpr ⟨(oeq_iff _ _ _).mpr h.1, (ole_iff _ _ _).mpr (by rw [spread_apply]; exact h.2)⟩)]
    exact Ideal.ofBits_one_f32
  set v : EReal := extractAt ![0, 0, 0] (shapeCast S1x1x1 (multiReduction .maximumf [1, 2] S1
      (shapeCast S1x128x128 x shapeCasts_S128x128_S1x128x128 : FVec Ideal S1x128x128 .f32) 0xFF800000#32 reduces_S1x128x128_S1 (.inl rfl) rfl : FVec Ideal S1 .f32) shapeCasts_S1_S1x1x1 : FVec Ideal S1x1x1 .f32)
      inpos_S1x1x1_p0_0_0 with hv
  have h2 : 1 ≤ v := by
    rw [hv]
    unfold extractAt
    rw [shapeCast_apply _ _ _ (ix1 0) (by rw [Shape.rowMajor_val_one, Shape.rowMajor_val_three]; rfl)]
    refine le_of_le_of_eq ?_ (multiReduction_maximumf_eq_fold (F := Ideal) (φ := .f32) _ _ _ _ _ _).symm
    have big : ∀ (b : EReal) (f : S1x128x128.Idx → EReal) (S : Finset S1x128x128.Idx) (i : S1x128x128.Idx), i ∈ S → f i ≤ Finset.fold max b f S :=
      fun b f S i hi => ((Finset.fold_max_le _).mp (le_refl _)).2 i hi
    refine le_trans ?_ (big _ _ _ (ix3 0 r l) (Finset.mem_filter.mpr ⟨Finset.mem_univ _, ?_⟩))
    rotate_left
    · have one : ∀ a b : S1.Idx, a = b := fun a b => funext fun d => by
        obtain rfl : d = 0 := Subsingleton.elim _ _
        exact Subsingleton.elim (α := Fin 1) _ _
      exact one _ _
    rw [shapeCast_apply _ _ (ix3 0 r l) (ix2 r l) (by rw [Shape.rowMajor_val_two, Shape.rowMajor_val_three]; show r.val * 128 + l.val = (0 * 128 + r.val) * 128 + l.val; omega), h1]
  have h3 : (Scalar.cmpf .ogt v (Scalar.ofBits .f32 0x00000000#32 : Ideal .f32) : BitVec 1) = 1#1 := by
    clear_value v
    rw [Ideal.scalar_cmpf_def, show (Scalar.ofBits .f32 0x00000000#32 : Ideal .f32) = (0 : EReal) from Ideal.ofBits_zero_f32]
    exact (bit_true ((0 : EReal) < v)).mpr (lt_of_lt_of_le zero_lt_one h2)
  rw [h3]
  rfl

/-- What a block's body stores: the selection's every other column. -/
theorem outFn_top (hpos : ∀ k < 8192, row D r k < POS) :
    ∃ c, Top (row D r) 8192 18 c ∧ ∀ t : Fin 9, outFn D (ix3 0 r t) = BitVec.ofNat 32 (c (2 * t.val)) := by
  have hr : ∀ t : Fin 9, rowOf (ix3 0 r t) = ix2 r 0 := fun t => funext fun a => match a with | ⟨0, _⟩ => rfl | ⟨1, _⟩ => rfl
  by_cases hn : need (hs D 17) (hs0 D).m4 = 1#1
  · obtain ⟨c, h1, h2⟩ := rounds_top hpos
    refine ⟨c, h1, fun t => ?_⟩
    have ht := t.isLt
    unfold outFn
    rw [if_pos hn, hr]
    exact (congrArg (Ideal.fptosi 32) (h2 (2 * t.val) (by omega))).trans (fptosi_nat _ (h1 _ (by omega)).1)
  · obtain ⟨c, h1, h2⟩ := merge_top hpos fun l h => hn (need_of l h)
    refine ⟨c, h1, fun t => ?_⟩
    have ht := t.isLt
    unfold outFn
    rw [if_neg hn, hr]
    exact (congrArg (Ideal.fptosi 32) (h2 (2 * t.val) (by omega))).trans (fptosi_nat _ (h1 _ (by omega)).1)

end Cert.Proof.KernelIdeal

end
-- ==== Proof.DistI.lean ====
/-
  The second kernel's distances over the extended reals, read at an index.
-/
module

public import proofs.«01_k».proof.Proof.BodyI
public import proofs.«01_k».proof.Proof.Num
public import Idealize.ShloMosaic.Lib.Pointwise.Tactic
public import Idealize.ShloMosaic.Lib.Pointwise

@[expose] public section

noncomputable section

namespace Cert.Proof.KernelIdeal

open Cert.KernelIdeal Cert.KernelIdeal.Gen
open Idealize.ShloMosaic Idealize.SL.Sem
open Cert.Proof.Num

theorem dist_apply (x : X) (b : Fin 2) (p : Fin 128 → Fin 8192) (v0 : S1x128x256.Idx → EReal) (v2 : S1x256x8192.Idx → EReal)
    (v8 : S1x128x1.Idx → EReal) (v12 : S1x1x8192.Idx → EReal) (h0 : ∀ r c, v0 (ix3 0 r c) = nv x b c (p r)) (h2 : ∀ c k, v2 (ix3 0 c k) = nv x b c k)
    (h8 : ∀ r, v8 (ix3 0 r 0) = Num.sq x b (p r)) (h12 : ∀ k, v12 (ix3 0 0 k) = Num.sq x b k) (r : Fin 128) (k : Fin 8192) :
    dist (F := Ideal) v0 v2 v8 v12 (ix2 r k) = dd x b (p r) k := by
  unfold dist dd
  pointwise [h0, h2, h8, h12, dot_S128x256_S256x8192_S128x8192_1_0_0_1_n_n]

end Cert.Proof.KernelIdeal

end
-- ==== Proof.TopI.lean ====
/-
  The reference's selection, read at an index: the stable sort of a row of distances gives its smallest in order.
-/
module

public import proofs.«01_k».proof.Proof.Gen.ReferenceIdeal
public import proofs.«01_k».proof.Proof.Sel
public import Idealize.ShloMosaic.Lib.Pointwise.Tactic
public import Idealize.ShloMosaic.Lib.Pointwise
public import Idealize.ShloMosaic.Lib.Pipeline.Value

@[expose] public section

noncomputable section

namespace Cert.Proof.ReferenceIdeal

open Cert.ReferenceIdeal Cert.ReferenceIdeal.Gen
open Idealize.ShloMosaic Idealize.SL.Sem
open Cert.Proof.Sel

/-- The distances of one point, by the other's number. -/
def rrow (D : FVec Ideal S2x8192x8192 .f32) (b : Fin 2) (n : Fin 8192) : ℕ → EReal := fun k => if h : k < 8192 then D (ix3 b n ⟨k, h⟩) else 0

/-- One distance is before another. -/
def less (D : FVec Ideal S2x8192x8192 .f32) (b : Fin 2) (n : Fin 8192) (p q : Fin 8192) : Bool := decide (D (ix3 b n p) < D (ix3 b n q))

/-- The numbers of one point's neighbours, nearest first. -/
def near (D : FVec Ideal S2x8192x8192 .f32) (b : Fin 2) (n : Fin 8192) : ℕ → ℕ := fun j => if h : j < 8192 then (sortedFrom (less D b n) ⟨j, h⟩).val else 0

theorem near_top (D : FVec Ideal S2x8192x8192 .f32) (b : Fin 2) (n : Fin 8192) : Top (rrow D b n) 8192 8192 (near D b n) := by
  refine top_sort (rrow D b n) 8192 (less D b n) (fun p q => ?_) _ (fun j => ?_)
  · simp only [rrow, less, p.isLt, q.isLt, dif_pos, Fin.eta]
  · simp only [near, j.isLt, dif_pos, Fin.eta]

theorem along_last {A B C : ℕ} (b : Fin A) (n : Fin B) (k k' : Fin C) : Shape.Idx.along (s := ⟨3, ![A, B, C]⟩) (ix3 b n k) (2 : Fin 3) k' = ix3 b n k' := by
  funext a
  match a with
  | ⟨0, _⟩ => rfl
  | ⟨1, _⟩ => rfl
  | ⟨2, _⟩ => rfl

theorem greater (x y : EReal) : (FloatOps.cmpfTotal (F := Ideal) (φ := .f32) .gt (-x) (-y) == 1#1) = decide (x < y) := by
  show (Ideal.cmp .ogt (-x) (-y) == 1#1) = _
  unfold Ideal.cmp
  simp only [EReal.neg_lt_neg_iff]
  by_cases h : x < y <;> simp [h]

/-- The second operand of a stable sort by the first, when it counts along the axis: the numbers in the sorted order. -/
theorem sort_apply {A B C : ℕ} (D : (⟨3, ![A, B, C]⟩ : Shape).Idx → EReal) (b : Fin A) (n : Fin B) (j : Fin C) :
    (Host.sort2 ⟨3, ![A, B, C]⟩ 2 (fun l r : EReal × BitVec 32 => FloatOps.cmpfTotal (F := Ideal) (φ := .f32) .gt l.1 r.1) (fun i => -(D i))
      (fun i => if hd : 2 < 3 then iotaInDim ⟨3, ![A, B, C]⟩ 32 ⟨2, hd⟩ i else 0#32)).2 (ix3 b n j)
      = BitVec.ofNat 32 (sortedFrom (fun p q => decide (D (ix3 b n p) < D (ix3 b n q))) j).val := by
  have e : (fun p q : Fin C => decide (D (ix3 b n p) < D (ix3 b n q))) = fun p q : Fin C =>
      (FloatOps.cmpfTotal (F := Ideal) (φ := .f32) .gt (-(D (Shape.Idx.along (s := ⟨3, ![A, B, C]⟩) (ix3 b n j) (2 : Fin 3) p)))
        (-(D (Shape.Idx.along (s := ⟨3, ![A, B, C]⟩) (ix3 b n j) (2 : Fin 3) q))) == 1#1) := by
    funext p q
    rw [along_last, along_last, greater]
  rw [e]
  rfl

theorem topK_apply (D : FVec Ideal S2x8192x8192 .f32) (b : Fin 2) (n : Fin 8192) (j : Fin 18) :
    (Host.topK S2x8192x18 2 (FloatOps.cmpfTotal (F := Ideal) (φ := .f32) .gt) (Host.negf D) sliceFits_S2x8192x8192_S2x8192x18).2 (ix3 b n j)
      = BitVec.ofNat 32 (near D b n j.val) := by
  have hj : j.val < 8192 := by omega
  unfold Host.topK
  dsimp only
  rw [extractStridedSlice_apply (k := ix3 b n ⟨j.val, hj⟩)]
  · refine (sort_apply D b n ⟨j.val, hj⟩).trans ?_
    unfold near less
    rw [dif_pos hj]
  · intro a
    match a with
    | ⟨0, _⟩ => exact (Nat.zero_add _).symm
    | ⟨1, _⟩ => exact (Nat.zero_add _).symm
    | ⟨2, _⟩ => exact (Nat.zero_add _).symm

/-- The reference's result of a selection. -/
def out (I : IVec S2x8192x18 32) : IVec S2x2x8192x9 32 :=
  Host.slice S2x2x8192x9 ![0, 0, 0, 0] ![1, 1, 1, 2] (concatenate S2x2x8192x18 0 [⟨S1x2x8192x18, broadcastInDim S1x2x8192x18 ![1, 2, 3] bcast_S2x8192x18_S1x2x8192x18_1_2_3 I⟩,
    ⟨S1x2x8192x18, broadcastInDim S1x2x8192x18 ![1, 2, 3] bcast_S2x8192x18_S1x2x8192x18_1_2_3 (broadcastInDim S2x8192x18 ![0, 1, 2] bcast_S1x8192x1_S2x8192x18_0_1_2
      (broadcastInDim S1x8192x1 ![1] bcast_S8192_S1x8192x1_1 (iotaInDim S8192 32 0)))⟩] concatenates_S1x2x8192x18_S1x2x8192x18_S2x2x8192x18_d0)
    slicesBy_S2x2x8192x18_S2x2x8192x9_0s1_0s1_0s1_0s2

theorem out_zero (I : IVec S2x8192x18 32) (b : Fin 2) (n : Fin 8192) (t : Fin 9) : out I (ix4 0 b n t) = I (ix3 b n ⟨2 * t.val, by omega⟩) := by
  unfold out
  pointwise

theorem out_one (I : IVec S2x8192x18 32) (b : Fin 2) (n : Fin 8192) (t : Fin 9) : out I (ix4 1 b n t) = BitVec.ofNat 32 n.val := by
  unfold out
  pointwise

end Cert.Proof.ReferenceIdeal

end
-- ==== Proof.PickI.lean ====
/-
  The array of the second kernel after its run, over the extended reals.
-/
module

public import proofs.«01_k».proof.Proof.RegI
public import proofs.«01_k».proof.Proof.MergeI
public import proofs.«01_k».proof.Proof.DistI
public import proofs.«01_k».proof.Proof.TopI
public import Idealize.ShloMosaic.Lib.Pipeline.ValueKit.Geometry

@[expose] public section

noncomputable section

namespace Cert.Proof.KernelIdeal

open Cert.KernelIdeal Cert.KernelIdeal.Gen
open Idealize.ShloMosaic Idealize.ShloMosaic.TcCoe Idealize.SL.Sem
open Idealize.ShloMosaic.Pipeline (Dat arrRef)
open Cert.Proof.Num Cert.Proof.Sel
open Cert.Proof.ReferenceIdeal (near near_top rrow)

variable (V : Dev nD → Valuation τ sig (Elt Ideal))

theorem at1_0 : ∀ t : Fin cfg1.N, win1_0.index t = ![t.val / 64, t.val % 64, 0] := (by decide +kernel : ∀ t : Fin grid1.N, win1_0.index t = ![t.val / 64, t.val % 64, 0])
theorem at1_1 : ∀ t : Fin cfg1.N, win1_1.index t = ![t.val / 64, 0, 0] := (by decide +kernel : ∀ t : Fin grid1.N, win1_1.index t = ![t.val / 64, 0, 0])
theorem at1_2 : ∀ t : Fin cfg1.N, win1_2.index t = ![t.val / 64, t.val % 64, 0] := (by decide +kernel : ∀ t : Fin grid1.N, win1_2.index t = ![t.val / 64, t.val % 64, 0])
theorem at1_3 : ∀ t : Fin cfg1.N, win1_3.index t = ![t.val / 64, 0, 0] := (by decide +kernel : ∀ t : Fin grid1.N, win1_3.index t = ![t.val / 64, 0, 0])
theorem at1_4 : ∀ t : Fin cfg1.N, win1_4.index t = ![t.val / 64, t.val % 64, 0] := (by decide +kernel : ∀ t : Fin grid1.N, win1_4.index t = ![t.val / 64, t.val % 64, 0])

theorem points1 (t : Fin cfg1.N) : t.val < 128 := t.isLt

/-- The batch of a point, -/
def batch (t : Fin cfg1.N) : Fin 2 := ⟨t.val / 64, by have := points1 t; omega⟩
/-- and the number of its row. -/
def rowAt (t : Fin cfg1.N) (r : Fin 128) : Fin 8192 := ⟨t.val % 64 * 128 + r.val, by omega⟩

/-- The distances of an input, all together. -/
def table (x : X) : FVec Ideal Cert.ReferenceIdeal.S2x8192x8192 .f32 := fun j => dd x (j 0) (j 1) (j 2)

variable (c : Dev nD) (x : X) (h4 : ∀ b n k, V c main_call0_v4 (ix3 b n k) = nv x b k n) (h2 : ∀ b k n, V c main_call0_v2 (ix3 b k n) = nv x b k n)
  (h5 : ∀ b n, V c main_call0_v5 (ix3 b n 0) = Num.sq x b n) (h1 : ∀ b n, V c main_call0_v1_1 (ix3 b 0 n) = Num.sq x b n) (t : Fin cfg1.N)

include h4 in
theorem blk1_0 (r : Fin 128) (k : Fin 256) : blk1 V c 0 t (ix3 0 r k) = nv x (batch t) k (rowAt t r) := by
  rw [← h4]
  show V c main_call0_v4 ((win1_0.blk t).view.emb (ix3 0 r k)) = _
  refine congrArg (V c main_call0_v4) ?_
  blk_ext [at1_0, batch, rowAt]

include h2 in
theorem blk1_1 (k : Fin 256) (n : Fin 8192) : blk1 V c 1 t (ix3 0 k n) = nv x (batch t) k n := by
  rw [← h2]
  show V c main_call0_v2 ((win1_1.blk t).view.emb (ix3 0 k n)) = _
  refine congrArg (V c main_call0_v2) ?_
  blk_ext [at1_1, batch]

include h5 in
theorem blk1_2 (r : Fin 128) : blk1 V c 2 t (ix3 0 r 0) = Num.sq x (batch t) (rowAt t r) := by
  rw [← h5]
  show V c main_call0_v5 ((win1_2.blk t).view.emb (ix3 0 r 0)) = _
  refine congrArg (V c main_call0_v5) ?_
  blk_ext [at1_2, batch, rowAt]

include h1 in
theorem blk1_3 (n : Fin 8192) : blk1 V c 3 t (ix3 0 0 n) = Num.sq x (batch t) n := by
  rw [← h1]
  show V c main_call0_v1_1 ((win1_3.blk t).view.emb (ix3 0 0 n)) = _
  refine congrArg (V c main_call0_v1_1) ?_
  blk_ext [at1_3, batch]

include h4 h2 h5 h1 in
/-- A row of a point's distances is that row of the table. -/
theorem row_eq (r : Fin 128) : row (dist (F := Ideal) (blk1 V c 0 t) (blk1 V c 1 t) (blk1 V c 2 t) (blk1 V c 3 t)) r = rrow (table x) (batch t) (rowAt t r) := by
  funext k
  unfold row rrow
  by_cases h : k < 8192
  · rw [dif_pos h, dif_pos h]
    exact dist_apply x (batch t) (rowAt t) _ _ _ _ (blk1_0 V c x h4 t) (blk1_1 V c x h2 t) (blk1_2 V c x h5 t) (blk1_3 V c x h1 t) r ⟨k, h⟩
  · rw [dif_neg h, dif_neg h]

include h4 h2 h5 h1 in
/-- So the kernel writes the numbers that a stable sort of the row gives. -/
theorem pick (r : Fin 128) (s : Fin 9) :
    outFn (F := Ideal) (dist (F := Ideal) (blk1 V c 0 t) (blk1 V c 1 t) (blk1 V c 2 t) (blk1 V c 3 t)) (ix3 0 r s)
      = BitVec.ofNat 32 (near (table x) (batch t) (rowAt t r) (2 * s.val)) := by
  have e := row_eq V c x h4 h2 h5 h1 t r
  obtain ⟨f, hf, ho⟩ := outFn_top (D := dist (F := Ideal) (blk1 V c 0 t) (blk1 V c 1 t) (blk1 V c 2 t) (blk1 V c 3 t)) (r := r) (fun k hk => by
    rw [e]
    unfold rrow
    rw [dif_pos hk]
    exact dd_lt x _ _ _)
  rw [e] at hf
  rw [ho s, hf.unique ((near_top (table x) (batch t) (rowAt t r)).mono (by decide)) (2 * s.val) (by omega)]

attribute [local irreducible] outFn dist near table

include h4 h2 h5 h1 in
/-- What the second kernel writes back at an index of its block. -/
theorem wrote (y : S1x128x9.Idx) : (dat1 V c).after 4 t y = BitVec.ofNat 32 (near (table x) (batch t) (rowAt t (y 1)) (2 * (y 2).val)) := by
  have h := pick V c x h4 h2 h5 h1 t (y 1) (y 2)
  have e : ix3 (0 : Fin 1) (y 1) (y 2) = y := by
    blk_ext []
  exact (congrArg (outFn (F := Ideal) (dist (F := Ideal) (blk1 V c 0 t) (blk1 V c 1 t) (blk1 V c 2 t) (blk1 V c 3 t))) e.symm).trans h

include h4 h2 h5 h1 in
theorem arr1_4 : (dat1 V c).arrAt 4 cfg1.N = fun i : S2x8192x9.Idx => BitVec.ofNat 32 (near (table x) (i 0) (i 1) (2 * (i 2).val)) := by
  refine (dat1 V c).arrAt_eq_of_covers 4 _ (by decide +kernel) fun t hf y => ?_
  show (dat1 V c).after 4 t y = BitVec.ofNat 32 (near (table x) ((win1_4.blk t).view.emb y 0) ((win1_4.blk t).view.emb y 1) (2 * ((win1_4.blk t).view.emb y 2).val))
  have e : (win1_4.blk t).view.emb y = ix3 (batch t) (rowAt t (y 1)) (y 2) := by
    blk_ext [at1_4, batch, rowAt]
  rw [e]
  exact wrote V c x h4 h2 h5 h1 t y

end Cert.Proof.KernelIdeal

end
-- ==== Proof.HostI.lean ====
/-
  What the host's own operations hold at an index, over the extended reals.
-/
module

public import proofs.«01_k».proof.Proof.Gen.KernelIdeal.Regions
public import Idealize.ShloMosaic.Lib.Pointwise.Tactic
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.StableHlo Idealize.SL.Sem

variable (W : Valuation τ sig (Elt Ideal))

theorem host0 (b : Fin 2) (k : Fin 256) (n : Fin 8192) :
    StableHlo.after (hostOps0 (F := Ideal)) W main_call0_v0 (ix3 b k n) = W main_arg0 (ix4 b k n 0) := by
  have e : StableHlo.after (hostOps0 (F := Ideal)) W main_call0_v0 = shapeCast S2x256x8192 (W main_arg0) shapeCasts_S2x256x8192x1_S2x256x8192 := by
    after_results_simp <;> rfl
  rw [e]
  pointwise

theorem host1_v2 (b : Fin 2) (k : Fin 256) (n : Fin 8192) :
    StableHlo.after (hostOps1 (F := Ideal)) W main_call0_v2 (ix3 b k n) = W main_call0_v1_0 (ix3 b k n) := by
  have e : StableHlo.after (hostOps1 (F := Ideal)) W main_call0_v2 = (truncf .bf16 (W main_call0_v1_0 : FVec Ideal S2x256x8192 .f32) bitsLt_bf16_f32 : FVec Ideal S2x256x8192 .bf16) := by
    after_results_simp <;> rfl
  rw [e]
  rfl

theorem host1_v4 (b : Fin 2) (n : Fin 8192) (k : Fin 256) :
    StableHlo.after (hostOps1 (F := Ideal)) W main_call0_v4 (ix3 b n k) = W main_call0_v1_0 (ix3 b k n) := by
  have e : StableHlo.after (hostOps1 (F := Ideal)) W main_call0_v4 = (truncf .bf16 (transpose S2x8192x256 [0, 2, 1] (W main_call0_v1_0 : FVec Ideal S2x256x8192 .f32)
      transposes_S2x256x8192_S2x8192x256_0_2_1 : FVec Ideal S2x8192x256 .f32) bitsLt_bf16_f32 : FVec Ideal S2x8192x256 .bf16) := by
    after_results_simp <;> rfl
  rw [e]
  pointwise

theorem host1_v5 (b : Fin 2) (n : Fin 8192) :
    StableHlo.after (hostOps1 (F := Ideal)) W main_call0_v5 (ix3 b n 0) = W main_call0_v1_1 (ix3 b 0 n) := by
  have e : StableHlo.after (hostOps1 (F := Ideal)) W main_call0_v5 = transpose S2x8192x1 [0, 2, 1] (W main_call0_v1_1) transposes_S2x1x8192_S2x8192x1_0_2_1 := by
    after_results_simp <;> rfl
  rw [e]
  pointwise

theorem host1_v1 : StableHlo.after (hostOps1 (F := Ideal)) W main_call0_v1_1 = W main_call0_v1_1 := by
  after_results_simp <;> rfl

/-- The result of a selection, beside each point's own number. -/
def fin (I : IVec S2x8192x9 32) : IVec S2x2x8192x9 32 :=
  concatenate S2x2x8192x9 0 [⟨S1x2x8192x9, broadcastInDim S1x2x8192x9 ![1, 2, 3] bcast_S2x8192x9_S1x2x8192x9_1_2_3 I⟩,
    ⟨S1x2x8192x9, broadcastInDim S1x2x8192x9 ![1, 2, 3] bcast_S2x8192x9_S1x2x8192x9_1_2_3 (broadcastInDim S2x8192x9 ![0, 1, 2] bcast_S1x8192x1_S2x8192x9_0_1_2
      (broadcastInDim S1x8192x1 ![1] bcast_S8192_S1x8192x1_1 (iotaInDim S8192 32 0)))⟩] concatenates_S1x2x8192x9_S1x2x8192x9_S2x2x8192x9_d0

theorem host2 : StableHlo.after (hostOps2 (F := Ideal)) W main_v0 = fin (W main_call0_v6) := by
  unfold fin
  after_results_simp <;> rfl

theorem fin_zero (I : IVec S2x8192x9 32) (b : Fin 2) (n : Fin 8192) (t : Fin 9) : fin I (ix4 0 b n t) = I (ix3 b n t) := by
  unfold fin
  pointwise

theorem fin_one (I : IVec S2x8192x9 32) (b : Fin 2) (n : Fin 8192) (t : Fin 9) : fin I (ix4 1 b n t) = BitVec.ofNat 32 n.val := by
  unfold fin
  pointwise

end Cert.Proof.KernelIdeal

end
-- ==== Proof.RefI.lean ====
/-
  The reference's result over the extended reals, read at an index: the selection by squared distance, and the point's
  own number.
-/
module

public import proofs.«01_k».proof.Proof.Gen.ReferenceIdeal
public import proofs.«01_k».proof.Proof.Num
public import proofs.«01_k».proof.Proof.Sel
public import Idealize.ShloMosaic.Lib.Pointwise.Tactic
public import Idealize.ShloMosaic.Lib.Pointwise

@[expose] public section

noncomputable section

namespace Cert.Proof.ReferenceIdeal

open Cert.ReferenceIdeal Cert.ReferenceIdeal.Gen
open Idealize.ShloMosaic Idealize.SL.Sem
open Cert.Proof.Sel Cert.Proof.Num

/-- The quotients, point by point. -/
def quo (x : FVec Ideal S2x256x8192x1 .f32) : FVec Ideal S2x8192x256 .f32 :=
  shapeCast S2x8192x256 (transpose S2x8192x256x1 [0, 2, 1, 3] (Host.divf x (broadcastInDim S2x256x8192x1 ![0, 1, 2, 3] bcast_S2x1x8192x1_S2x256x8192x1_0_1_2_3
    (maximumf (Host.sqrt (broadcastInDim S2x1x8192x1 ![0, 2, 3] bcast_S2x8192x1_S2x1x8192x1_0_2_3 (Host.reduceAdd (mulf x x) (constant S_ .f32 0x00000000#32)
      reducesTo_S2x256x8192x1_S2x8192x1_d1 h_S_))) (broadcastInDim S2x1x8192x1 ![] bcast_S_S2x1x8192x1 (constant S_ .f32 0x2B8CBCCC#32)))))
    transposes_S2x256x8192x1_S2x8192x256x1_0_2_1_3) shapeCasts_S2x8192x256x1_S2x8192x256

/-- Their squared lengths. -/
def len (q : FVec Ideal S2x8192x256 .f32) : FVec Ideal S2x8192x1 .f32 :=
  broadcastInDim S2x8192x1 ![0, 1] bcast_S2x8192_S2x8192x1_0_1 (Host.reduceAdd (mulf q q) (constant S_ .f32 0x00000000#32) reducesTo_S2x8192x256_S2x8192_d2 h_S_)

/-- The squared distances. -/
def rdist (q : FVec Ideal S2x8192x256 .f32) : FVec Ideal S2x8192x8192 .f32 :=
  addf (addf (broadcastInDim S2x8192x8192 ![0, 1, 2] bcast_S2x8192x1_S2x8192x8192_0_1_2 (len q))
    (mulf (broadcastInDim S2x8192x8192 ![] bcast_S_S2x8192x8192 (constant S_ .f32 0xC0000000#32))
      (Host.dotGeneral dot_S2x8192x256_S2x256x8192_S2x8192x8192_2_1_1_2_0_0 none q (transpose S2x256x8192 [0, 2, 1] q transposes_S2x8192x256_S2x256x8192_0_2_1))))
    (broadcastInDim S2x8192x8192 ![0, 1, 2] bcast_S2x1x8192_S2x8192x8192_0_1_2 (transpose S2x1x8192 [0, 2, 1] (len q) transposes_S2x8192x1_S2x1x8192_0_2_1))

theorem quo_apply (x : FVec Ideal S2x256x8192x1 .f32) (b : Fin 2) (n : Fin 8192) (c : Fin 256) : quo x (ix3 b n c) = nv x b c n := by
  unfold quo nv
  pointwise

theorem len_apply (x : FVec Ideal S2x256x8192x1 .f32) (b : Fin 2) (n : Fin 8192) : len (quo x) (ix3 b n 0) = sq x b n := by
  unfold len Num.sq
  pointwise [quo_apply]

theorem rdist_apply (x : FVec Ideal S2x256x8192x1 .f32) (b : Fin 2) (i k : Fin 8192) : rdist (quo x) (ix3 b i k) = dd x b i k := by
  unfold rdist dd
  pointwise [quo_apply, len_apply, dot_S2x8192x256_S2x256x8192_S2x8192x8192_2_1_1_2_0_0]

end Cert.Proof.ReferenceIdeal

end
-- ==== Proof.ValI.lean ====
/-
  The kernel's result over the extended reals is the reference's.
-/
module

public import proofs.«01_k».proof.Proof.MainI
public import proofs.«01_k».proof.Proof.ArrI
public import proofs.«01_k».proof.Proof.PickI
public import proofs.«01_k».proof.Proof.HostI
public import proofs.«01_k».proof.Proof.RefI
public import proofs.«01_k».proof.Proof.Gen.ReferenceIdeal.Run

@[expose] public section

noncomputable section

namespace Cert.Proof.KernelIdeal

open Cert.KernelIdeal Cert.KernelIdeal.Gen
open Idealize.ShloMosaic Idealize.ShloMosaic.TcCoe Idealize.SL.Sem
open Idealize.ShloMosaic.Pipeline (Dat arrRef afterRegion)
open Cert.Proof.Num Cert.Proof.Sel
open Cert.Proof.ReferenceIdeal (near quo rdist rdist_apply)

variable (m : (ℓ : Loc nD τ sig) → Buf (Elt Ideal) ℓ) (c : Dev nD)

/-- The input of a device. -/
def inp : X := m ((c.tc : Thread nD τ).loc main_arg0)

theorem held0 (b : Fin 2) (k : Fin 256) (n : Fin 8192) : V1 m c main_call0_v0 (ix3 b k n) = inp m c (ix4 b k n 0) := host0 (V0 m c) b k n

theorem held1 : V2 m (outsA m) c main_call0_v1_0 = fun i : S2x256x8192.Idx => nv (inp m c) (i 0) (i 1) (i 2) := by
  dsimp only [V2]
  rw [Function.update_of_ne (by decide), Function.update_self]
  exact (Pipeline.afterRegion_arr (dat0 (V1 m) c) (V1 m c) launch0.win.arr_inj 1).trans (arr0_1 (V1 m) c (inp m c) (held0 m c))

theorem held2 : V2 m (outsA m) c main_call0_v1_1 = fun i : S2x1x8192.Idx => Num.sq (inp m c) (i 0) (i 2) := by
  dsimp only [V2]
  rw [Function.update_self]
  exact (Pipeline.afterRegion_arr (dat0 (V1 m) c) (V1 m c) launch0.win.arr_inj 2).trans (arr0_2 (V1 m) c (inp m c) (held0 m c))

theorem held3 : V4 m (outs m) c main_call0_v6 = fun i : S2x8192x9.Idx => BitVec.ofNat 32 (near (table (inp m c)) (i 0) (i 1) (2 * (i 2).val)) := by
  dsimp only [V4]
  rw [Function.update_self]
  refine (Pipeline.afterRegion_arr (dat1 (V3 m (outsA m)) c) (V3 m (outsA m) c) launch1.win.arr_inj 4).trans (arr1_4 (V3 m (outsA m)) c (inp m c) ?_ ?_ ?_ ?_)
  · exact fun b n k => (host1_v4 (V2 m (outsA m) c) b n k).trans (congrFun (held1 m c) _)
  · exact fun b k n => (host1_v2 (V2 m (outsA m) c) b k n).trans (congrFun (held1 m c) _)
  · exact fun b n => (host1_v5 (V2 m (outsA m) c) b n).trans (congrFun (held2 m c) _)
  · exact fun b n => (congrFun (host1_v1 (V2 m (outsA m) c)) _).trans (congrFun (held2 m c) _)

/-- The whole result, by its four coordinates. -/
theorem result_zero (b : Fin 2) (n : Fin 8192) (t : Fin 9) :
    V5 m (outs m) c main_v0 (ix4 0 b n t) = BitVec.ofNat 32 (near (table (inp m c)) b n (2 * t.val)) :=
  (congrFun (host2 (V4 m (outs m) c)) _).trans ((fin_zero _ b n t).trans (congrFun (held3 m c) _))

theorem result_one (b : Fin 2) (n : Fin 8192) (t : Fin 9) : V5 m (outs m) c main_v0 (ix4 1 b n t) = BitVec.ofNat 32 n.val :=
  (congrFun (host2 (V4 m (outs m) c)) _).trans (fin_one _ b n t)

/-- The reference's distances are the table. -/
theorem rdist_table (x : X) : rdist (quo x) = table x := by
  funext j
  rw [eq_ix3 j]
  exact rdist_apply x _ _ _

end Cert.Proof.KernelIdeal

namespace Cert.Proof.ReferenceIdeal

open Cert.ReferenceIdeal Cert.ReferenceIdeal.Gen
open Idealize.ShloMosaic Idealize.SL.Sem
open Cert.Proof.Num

/-- The numbers of the reference's selection. -/
def sel (D : FVec Ideal S2x8192x8192 .f32) : IVec S2x8192x18 32 :=
  (Host.topK S2x8192x18 2 (FloatOps.cmpfTotal (F := Ideal) (φ := .f32) .gt) (Host.negf D) sliceFits_S2x8192x8192_S2x8192x18).2

theorem res_eq (m : (ℓ : Loc nD τ sig) → Buf (Elt Ideal) ℓ) (c : Dev nD) :
    Cert.ReferenceIdeal.Value.res_main_v29 m c = out (sel (rdist (quo (m ((c.tc : Thread nD τ).loc main_arg0))))) := by
  unfold Cert.ReferenceIdeal.Value.res_main_v29 out sel rdist len quo
  rfl

end Cert.Proof.ReferenceIdeal

end
-- ==== Proof.lean ====
/-
  The proof of the claims: each program's run, read at the instance its claim names.
-/
module

public import proofs.«01_k».proof.Defs
public import proofs.«01_k».proof.Proof.MainI
public import proofs.«01_k».proof.Proof.ValI
public import proofs.«01_k».proof.Proof.MainK
public import proofs.«01_k».proof.Proof.Gen.ReferenceIdeal.Run
public import Idealize.ShloMosaic.Lib.Quiescent
public import Idealize.ShloMosaic.Init

@[expose] public section

noncomputable section

namespace Cert.Proof

open Idealize.ShloMosaic Idealize.ShloMosaic.TcCoe Idealize.SL.Sem

/-- The kernel's frame at the bit-exact floats. -/
theorem frameP : quiescent_Kernel (hKernel := Cert.Kernel.Gen.facts) := fun m g _ =>
  (θ_run Cert.Kernel.defs _ _).mono (fun _ h => ⟨fun c => (h.1 c).2, h.2⟩) (Cert.Proof.Kernel.run_main (F := Bits) m g)

/-- The kernel's frame over the reals. -/
theorem framePI : quiescent_KernelIdeal (hKernelIdeal := Cert.KernelIdeal.Gen.facts) := fun m g _ =>
  (θ_run Cert.KernelIdeal.defs _ _).mono (fun _ h => ⟨fun c => (h.1 c).2, h.2⟩) (Cert.Proof.KernelIdeal.run_main (F := Ideal) m g)

/-- The reference's frame over the reals: it has no semaphore. -/
theorem frameRI : quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

/-- The two results, of equal inputs, are equal: both hold at each point the numbers a stable sort of its distances gives,
    every other one, beside the point's own. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_main_v29 m' c = Cert.KernelIdeal.Gen.V5 m (KernelIdeal.outs m) c Cert.KernelIdeal.main_v0 := by
  rw [ReferenceIdeal.res_eq, h]
  refine (congrArg (fun D => ReferenceIdeal.out (ReferenceIdeal.sel D)) (KernelIdeal.rdist_table (KernelIdeal.inp m c))).trans ?_
  funext (j : Cert.KernelIdeal.S2x2x8192x9.Idx)
  rw [eq_ix4 j]
  generalize j 0 = s
  generalize (j 1 : Fin 2) = b
  generalize (j 2 : Fin 8192) = n
  generalize (j 3 : Fin 9) = t
  match s with
  | ⟨0, _⟩ =>
    exact (ReferenceIdeal.out_zero _ b n t).trans ((ReferenceIdeal.topK_apply _ b n _).trans (KernelIdeal.result_zero m c b n t).symm)
  | ⟨1, _⟩ =>
    exact (ReferenceIdeal.out_one _ b n t).trans (KernelIdeal.result_one m c b n t).symm

/-- Over the reals the kernel computes the reference. -/
theorem algebraicPIRI : algebraic_KernelIdeal_ReferenceIdeal (hKernelIdeal := Cert.KernelIdeal.Gen.facts) (hReferenceIdeal := Cert.ReferenceIdeal.Gen.facts) :=
  fun m g m' g' _ hin => ⟨fun c => Cert.KernelIdeal.Gen.V5 m (KernelIdeal.outs m) c Cert.KernelIdeal.main_v0,
    (θ_run Cert.KernelIdeal.defs _ _).mono (fun _ h => h.1) (Cert.Proof.KernelIdeal.run_main (F := Ideal) m g),
    (θ_run Cert.ReferenceIdeal.defs _ _).mono (fun _ h c => ⟨(h c).1.trans (same m m' c (hin c)), (h c).2⟩)
      (Cert.ReferenceIdeal.Value.run (F := Ideal) m' g')⟩

theorem claim : Cert.Claim := ⟨Cert.Kernel.Gen.facts, Cert.KernelIdeal.Gen.facts, Cert.ReferenceIdeal.Gen.facts,
  frameP, framePI, frameRI, trivial, algebraicPIRI⟩

end Cert.Proof

end
